-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_KernelIdeal_in_range_and_finite [hPre_in_range_and_finite : Cert.Pre_in_range_and_finite.Facts] (m : (ℓ : Loc Cert.KernelIdeal.nD Cert.KernelIdeal.τ Cert.KernelIdeal.sig) → Buf (Elt Ideal) ℓ) : Prop :=
  ∀ c : Dev Cert.KernelIdeal.nD,
    (Cert.Pre_in_range_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range_and_finite [hPre_in_range_and_finite : Cert.Pre_in_range_and_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_in_range_and_finite [hKernelIdeal : Cert.KernelIdeal.Facts] [hPre_in_range_and_finite : Cert.Pre_in_range_and_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range_and_finite m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_in_range_and_finite [hReferenceIdeal : Cert.ReferenceIdeal.Facts] [hPre_in_range_and_finite : Cert.Pre_in_range_and_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range_and_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_in_range_and_finite [hKernelIdeal : Cert.KernelIdeal.Facts] [hReferenceIdeal : Cert.ReferenceIdeal.Facts] [hPre_in_range_and_finite : Cert.Pre_in_range_and_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range_and_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_in_range : Cert.Pre_in_range.Facts) (hPre_in_range_and_finite : Cert.Pre_in_range_and_finite.Facts),
    quiescent_Kernel (hKernel := hKernel) (hPre_in_range := hPre_in_range)
    ∧ quiescent_KernelIdeal (hKernelIdeal := hKernelIdeal) (hPre_in_range := hPre_in_range)
    ∧ quiescent_KernelIdeal_pre_in_range_and_finite (hKernelIdeal := hKernelIdeal) (hPre_in_range_and_finite := hPre_in_range_and_finite)
    ∧ quiescent_ReferenceIdeal (hReferenceIdeal := hReferenceIdeal)
    ∧ quiescent_ReferenceIdeal_pre_in_range_and_finite (hReferenceIdeal := hReferenceIdeal) (hPre_in_range_and_finite := hPre_in_range_and_finite)
    ∧ preserves_Kernel_KernelIdeal
    ∧ algebraic_KernelIdeal_ReferenceIdeal_pre_in_range_and_finite (hKernelIdeal := hKernelIdeal) (hReferenceIdeal := hReferenceIdeal) (hPre_in_range_and_finite := hPre_in_range_and_finite)
-- ==== Pre_in_range.lean ====
abbrev S16384x64 : Shape := ⟨2, ![16384, 64]⟩
abbrev S15 : Shape := ⟨1, ![15]⟩
abbrev S100000x64 : Shape := ⟨2, ![100000, 64]⟩
abbrev S_ : Shape := ⟨0, ![]⟩

class Facts : Prop where
  bcast_S_S15 : S_.BroadcastsInDim S15 (![] : Fin 0 → Fin S15.rank)
  reducesTo_S15_S_d0 : S15.ReducesTo [0] S_
  h_S_ : 0 < S_.numel

variable [Facts]

def fn {F : FTy → Type} [FloatOps F] (main_arg0 : FVec F S16384x64 .f32) (main_arg1 : FVec F S16384x64 .f32) (main_arg2 : IVec S15 32) (main_arg3 : FVec F S100000x64 .f32) : IVec S_ 1 :=
  let main_c : IVec S_ 32 := constantI S_ 32 0#32
  let main_v0 : IVec S15 32 := broadcastInDim S15 ![] bcast_S_S15 main_c
  let main_v1 : IVec S15 1 := cmpi .sge main_arg2 main_v0
  let main_c_0 : IVec S_ 1 := constantI S_ 1 1#1
  let main_v2 : IVec S_ 1 := (fun x v => Host.reduce IntOp.andi x v reducesTo_S15_S_d0 h_S_) main_v1 main_c_0
  let main_c_1 : IVec S_ 32 := constantI S_ 32 100000#32
  let main_v3 : IVec S15 32 := broadcastInDim S15 ![] bcast_S_S15 main_c_1
  let main_v4 : IVec S15 1 := cmpi .slt main_arg2 main_v3
  let main_c_2 : IVec S_ 1 := constantI S_ 1 1#1
  let main_v5 : IVec S_ 1 := (fun x v => Host.reduce IntOp.andi x v reducesTo_S15_S_d0 h_S_) main_v4 main_c_2
  let main_v6 : IVec S_ 1 := andi main_v2 main_v5
  main_v6
-- ==== Pre_in_range_and_finite.lean ====
abbrev S16384x64 : Shape := ⟨2, ![16384, 64]⟩
abbrev S15 : Shape := ⟨1, ![15]⟩
abbrev S100000x64 : Shape := ⟨2, ![100000, 64]⟩
abbrev S_ : Shape := ⟨0, ![]⟩

class Facts : Prop where
  bcast_S_S15 : S_.BroadcastsInDim S15 (![] : Fin 0 → Fin S15.rank)
  reducesTo_S15_S_d0 : S15.ReducesTo [0] S_
  h_S_ : 0 < S_.numel
  bcast_S_S16384x64 : S_.BroadcastsInDim S16384x64 (![] : Fin 0 → Fin S16384x64.rank)
  reducesTo_S16384x64_S_d0_1 : S16384x64.ReducesTo [0, 1] S_
  bcast_S_S100000x64 : S_.BroadcastsInDim S100000x64 (![] : Fin 0 → Fin S100000x64.rank)
  reducesTo_S100000x64_S_d0_1 : S100000x64.ReducesTo [0, 1] S_

variable [Facts]

def fn_part1 {F : FTy → Type} [FloatOps F] (main_v11 : IVec S_ 1) (main_v15 : IVec S_ 1) : IVec S_ 1 :=
  let main_v16 : IVec S_ 1 := andi main_v11 main_v15
  main_v16

def fn {F : FTy → Type} [FloatOps F] (main_arg0 : FVec F S16384x64 .f32) (main_arg1 : FVec F S16384x64 .f32) (main_arg2 : IVec S15 32) (main_arg3 : FVec F S100000x64 .f32) : IVec S_ 1 :=
  let main_c : IVec S_ 32 := constantI S_ 32 0#32
  let main_v0 : IVec S15 32 := broadcastInDim S15 ![] bcast_S_S15 main_c
  let main_v1 : IVec S15 1 := cmpi .sge main_arg2 main_v0
  let main_c_0 : IVec S_ 1 := constantI S_ 1 1#1
  let main_v2 : IVec S_ 1 := (fun x v => Host.reduce IntOp.andi x v reducesTo_S15_S_d0 h_S_) main_v1 main_c_0
  let main_c_1 : IVec S_ 32 := constantI S_ 32 100000#32
  let main_v3 : IVec S15 32 := broadcastInDim S15 ![] bcast_S_S15 main_c_1
  let main_v4 : IVec S15 1 := cmpi .slt main_arg2 main_v3
  let main_c_2 : IVec S_ 1 := constantI S_ 1 1#1
  let main_v5 : IVec S_ 1 := (fun x v => Host.reduce IntOp.andi x v reducesTo_S15_S_d0 h_S_) main_v4 main_c_2
  let main_v6 : IVec S_ 1 := andi main_v2 main_v5
  let main_v7 : FVec F S16384x64 .f32 := Host.absf main_arg0
  let main_cst : FVec F S_ .f32 := constant S_ .f32 0x7F800000#32
  let main_v8 : FVec F S16384x64 .f32 := broadcastInDim S16384x64 ![] bcast_S_S16384x64 main_cst
  let main_v9 : IVec S16384x64 1 := cmpf .olt main_v7 main_v8
  let main_c_3 : IVec S_ 1 := constantI S_ 1 1#1
  let main_v10 : IVec S_ 1 := (fun x v => Host.reduce IntOp.andi x v reducesTo_S16384x64_S_d0_1 h_S_) main_v9 main_c_3
  let main_v11 : IVec S_ 1 := andi main_v6 main_v10
  let main_v12 : FVec F S100000x64 .f32 := Host.absf main_arg3
  let main_cst_4 : FVec F S_ .f32 := constant S_ .f32 0x7F800000#32
  let main_v13 : FVec F S100000x64 .f32 := broadcastInDim S100000x64 ![] bcast_S_S100000x64 main_cst_4
  let main_v14 : IVec S100000x64 1 := cmpf .olt main_v12 main_v13
  let main_c_5 : IVec S_ 1 := constantI S_ 1 1#1
  let main_v15 : IVec S_ 1 := (fun x v => Host.reduce IntOp.andi x v reducesTo_S100000x64_S_d0_1 h_S_) main_v14 main_c_5
  fn_part1 (F := F) main_v11 main_v15
-- ==== Kernel.lean ====
abbrev S16384x64 : Shape := ⟨2, ![16384, 64]⟩
abbrev S15 : Shape := ⟨1, ![15]⟩
abbrev S100000x64 : Shape := ⟨2, ![100000, 64]⟩
abbrev S1 : Shape := ⟨1, ![1]⟩
abbrev S16 : Shape := ⟨1, ![16]⟩
abbrev S1x16 : Shape := ⟨2, ![1, 16]⟩
abbrev S16x64 : Shape := ⟨2, ![16, 64]⟩
abbrev S_ : Shape := ⟨0, ![]⟩
abbrev S1x1 : Shape := ⟨2, ![1, 1]⟩
abbrev S1x64 : Shape := ⟨2, ![1, 64]⟩
abbrev S64 : Shape := ⟨1, ![64]⟩
abbrev S2048x64 : Shape := ⟨2, ![2048, 64]⟩
abbrev S2048 : Shape := ⟨1, ![2048]⟩
abbrev S2048x16 : Shape := ⟨2, ![2048, 16]⟩
abbrev S1x2048 : Shape := ⟨2, ![1, 2048]⟩
abbrev S1x2048x16 : Shape := ⟨3, ![1, 2048, 16]⟩
abbrev S1x1x1 : Shape := ⟨3, ![1, 1, 1]⟩

abbrev nBuf : Table → Nat
  | .hbm => 10
  | .local .tc .vmem => 5
  | .local .tc .smem => 1
  | .local .scScalar .smem => 1
  | _ => 0

abbrev bufTy : (tb : Table) → Fin (nBuf tb) → BufTy
  | .hbm, ⟨0, _⟩ => ⟨S16384x64, .f32⟩
  | .hbm, ⟨1, _⟩ => ⟨S16384x64, .f32⟩
  | .hbm, ⟨2, _⟩ => ⟨S15, .i32⟩
  | .hbm, ⟨3, _⟩ => ⟨S100000x64, .f32⟩
  | .hbm, ⟨4, _⟩ => ⟨S1, .i32⟩
  | .hbm, ⟨5, _⟩ => ⟨S16, .i32⟩
  | .hbm, ⟨6, _⟩ => ⟨S1x16, .i32⟩
  | .hbm, ⟨7, _⟩ => ⟨S16x64, .f32⟩
  | .hbm, ⟨8, _⟩ => ⟨S1x1, .f32⟩
  | .hbm, ⟨9, _⟩ => ⟨S_, .f32⟩
  | .local .tc .vmem, ⟨0, _⟩ => ⟨S2048x64, .f32⟩
  | .local .tc .vmem, ⟨1, _⟩ => ⟨S2048x64, .f32⟩
  | .local .tc .vmem, ⟨2, _⟩ => ⟨S2048x64, .f32⟩
  | .local .tc .vmem, ⟨3, _⟩ => ⟨S2048x64, .f32⟩
  | .local .tc .vmem, ⟨4, _⟩ => ⟨S16x64, .f32⟩
  | .local .tc .smem, ⟨0, _⟩ => ⟨S1x1, .f32⟩
  | .local .scScalar .smem, ⟨0, _⟩ => ⟨S1x16, .i32⟩
  | _, _ => ⟨S16384x64, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 8 → Bool
  | ⟨0, _⟩ => false
  | ⟨1, _⟩ => false
  | ⟨2, _⟩ => true
  | ⟨3, _⟩ => true
  | ⟨4, _⟩ => true
  | ⟨5, _⟩ => true
  | ⟨6, _⟩ => true
  | ⟨7, _⟩ => true
  | _ => false

abbrev sig : RefSig :=
  ofTables nBuf rfl bufTy 4 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_arg3_scs : Ref sig .scScalar := ⟨.hbm, 3, rfl⟩
abbrev main_v2_scs : Ref sig .scScalar := ⟨.hbm, 6, rfl⟩
abbrev main_v3_scs : Ref sig .scScalar := ⟨.hbm, 7, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg3_0 : Ref sig .tc := ⟨.smem, 0, rfl⟩
abbrev cc0_scratch0 : Ref sig .scScalar := ⟨.smem, 0, rfl⟩
abbrev cc1_sem0_0 : DmaSem sig := 2
abbrev cc1_sem0_1 : DmaSem sig := 3
abbrev cc1_sem1_0 : DmaSem sig := 4
abbrev cc1_sem1_1 : DmaSem sig := 5
abbrev cc1_sem2_0 : DmaSem sig := 6
abbrev cc1_sem3_0 : DmaSem sig := 7
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![2], ![false]⟩

def k0_off1 (i : grid0.Coords) : Fin 2 → Nat :=
  let c0_i32_0 : BitVec 32 := 0#32
  let v2 : Index := Scalar.indexCast c0_i32_0
  let arg0 : BitVec 32 := BitVec.ofNat 32 (i 0).val
  let c8_i32 : BitVec 32 := 8#32
  let v0 : BitVec 32 := Scalar.muli arg0 c8_i32
  let c0_i32 : BitVec 32 := 0#32
  let v1 : BitVec 32 := Scalar.addi v0 c0_i32
  let v3 : Index := Scalar.indexCast v1
  ![0, v3.toNat]
def k0_off2 (i : grid0.Coords) : Fin 2 → Nat :=
  let arg0 : BitVec 32 := BitVec.ofNat 32 (i 0).val
  let c8_i32 : BitVec 32 := 8#32
  let v0 : BitVec 32 := Scalar.muli arg0 c8_i32
  let c0_i32 : BitVec 32 := 0#32
  let v1 : BitVec 32 := Scalar.addi v0 c0_i32
  let c0_i32_1 : BitVec 32 := 0#32
  ![v1.toNat, 0]
def k0_off3 (v4 : BitVec 32) : Fin 2 → Nat :=
  let c0_i32_2 : BitVec 32 := 0#32
  ![v4.toNat, 0]

def k0_off4 (i : grid0.Coords) : Fin 2 → Nat :=
  let c0_i32_4 : BitVec 32 := 0#32
  let v11 : Index := Scalar.indexCast c0_i32_4
  let arg0 : BitVec 32 := BitVec.ofNat 32 (i 0).val
  let c8_i32_3 : BitVec 32 := 8#32
  let v9 : BitVec 32 := Scalar.muli arg0 c8_i32_3
  let c1_i32 : BitVec 32 := 1#32
  let v10 : BitVec 32 := Scalar.addi v9 c1_i32
  let v12 : Index := Scalar.indexCast v10
  ![0, v12.toNat]
def k0_off5 (i : grid0.Coords) : Fin 2 → Nat :=
  let arg0 : BitVec 32 := BitVec.ofNat 32 (i 0).val
  let c8_i32_3 : BitVec 32 := 8#32
  let v9 : BitVec 32 := Scalar.muli arg0 c8_i32_3
  let c1_i32 : BitVec 32 := 1#32
  let v10 : BitVec 32 := Scalar.addi v9 c1_i32
  let c0_i32_5 : BitVec 32 := 0#32
  ![v10.toNat, 0]
def k0_off6 (v13 : BitVec 32) : Fin 2 → Nat :=
  let c0_i32_6 : BitVec 32 := 0#32
  ![v13.toNat, 0]

def k0_off7 (i : grid0.Coords) : Fin 2 → Nat :=
  let c0_i32_8 : BitVec 32 := 0#32
  let v20 : Index := Scalar.indexCast c0_i32_8
  let arg0 : BitVec 32 := BitVec.ofNat 32 (i 0).val
  let c8_i32_7 : BitVec 32 := 8#32
  let v18 : BitVec 32 := Scalar.muli arg0 c8_i32_7
  let c2_i32 : BitVec 32 := 2#32
  let v19 : BitVec 32 := Scalar.addi v18 c2_i32
  let v21 : Index := Scalar.indexCast v19
  ![0, v21.toNat]
def k0_off8 (i : grid0.Coords) : Fin 2 → Nat :=
  let arg0 : BitVec 32 := BitVec.ofNat 32 (i 0).val
  let c8_i32_7 : BitVec 32 := 8#32
  let v18 : BitVec 32 := Scalar.muli arg0 c8_i32_7
  let c2_i32 : BitVec 32 := 2#32
  let v19 : BitVec 32 := Scalar.addi v18 c2_i32
  let c0_i32_9 : BitVec 32 := 0#32
  ![v19.toNat, 0]
def k0_off9 (v22 : BitVec 32) : Fin 2 → Nat :=
  let c0_i32_10 : BitVec 32 := 0#32
  ![v22.toNat, 0]

def k0_off10 (i : grid0.Coords) : Fin 2 → Nat :=
  let c0_i32_12 : BitVec 32 := 0#32
  let v29 : Index := Scalar.indexCast c0_i32_12
  let arg0 : BitVec 32 := BitVec.ofNat 32 (i 0).val
  let c8_i32_11 : BitVec 32 := 8#32
  let v27 : BitVec 32 := Scalar.muli arg0 c8_i32_11
  let c3_i32 : BitVec 32 := 3#32
  let v28 : BitVec 32 := Scalar.addi v27 c3_i32
  let v30 : Index := Scalar.indexCast v28
  ![0, v30.toNat]
def k0_off11 (i : grid0.Coords) : Fin 2 → Nat :=
  let arg0 : BitVec 32 := BitVec.ofNat 32 (i 0).val
  let c8_i32_11 : BitVec 32 := 8#32
  let v27 : BitVec 32 := Scalar.muli arg0 c8_i32_11
  let c3_i32 : BitVec 32 := 3#32
  let v28 : BitVec 32 := Scalar.addi v27 c3_i32
  let c0_i32_13 : BitVec 32 := 0#32
  ![v28.toNat, 0]
def k0_off12 (v31 : BitVec 32) : Fin 2 → Nat :=
  let c0_i32_14 : BitVec 32 := 0#32
  ![v31.toNat, 0]

def k0_off13 (i : grid0.Coords) : Fin 2 → Nat :=
  let c0_i32_16 : BitVec 32 := 0#32
  let v38 : Index := Scalar.indexCast c0_i32_16
  let arg0 : BitVec 32 := BitVec.ofNat 32 (i 0).val
  let c8_i32_15 : BitVec 32 := 8#32
  let v36 : BitVec 32 := Scalar.muli arg0 c8_i32_15
  let c4_i32 : BitVec 32 := 4#32
  let v37 : BitVec 32 := Scalar.addi v36 c4_i32
  let v39 : Index := Scalar.indexCast v37
  ![0, v39.toNat]
def k0_off14 (i : grid0.Coords) : Fin 2 → Nat :=
  let arg0 : BitVec 32 := BitVec.ofNat 32 (i 0).val
  let c8_i32_15 : BitVec 32 := 8#32
  let v36 : BitVec 32 := Scalar.muli arg0 c8_i32_15
  let c4_i32 : BitVec 32 := 4#32
  let v37 : BitVec 32 := Scalar.addi v36 c4_i32
  let c0_i32_17 : BitVec 32 := 0#32
  ![v37.toNat, 0]
def k0_off15 (v40 : BitVec 32) : Fin 2 → Nat :=
  let c0_i32_18 : BitVec 32 := 0#32
  ![v40.toNat, 0]

def k0_off16 (i : grid0.Coords) : Fin 2 → Nat :=
  let c0_i32_20 : BitVec 32 := 0#32
  let v47 : Index := Scalar.indexCast c0_i32_20
  let arg0 : BitVec 32 := BitVec.ofNat 32 (i 0).val
  let c8_i32_19 : BitVec 32 := 8#32
  let v45 : BitVec 32 := Scalar.muli arg0 c8_i32_19
  let c5_i32 : BitVec 32 := 5#32
  let v46 : BitVec 32 := Scalar.addi v45 c5_i32
  let v48 : Index := Scalar.indexCast v46
  ![0, v48.toNat]
def k0_off17 (i : grid0.Coords) : Fin 2 → Nat :=
  let arg0 : BitVec 32 := BitVec.ofNat 32 (i 0).val
  let c8_i32_19 : BitVec 32 := 8#32
  let v45 : BitVec 32 := Scalar.muli arg0 c8_i32_19
  let c5_i32 : BitVec 32 := 5#32
  let v46 : BitVec 32 := Scalar.addi v45 c5_i32
  let c0_i32_21 : BitVec 32 := 0#32
  ![v46.toNat, 0]
def k0_off18 (v49 : BitVec 32) : Fin 2 → Nat :=
  let c0_i32_22 : BitVec 32 := 0#32
  ![v49.toNat, 0]

def k0_off19 (i : grid0.Coords) : Fin 2 → Nat :=
  let c0_i32_24 : BitVec 32 := 0#32
  let v56 : Index := Scalar.indexCast c0_i32_24
  let arg0 : BitVec 32 := BitVec.ofNat 32 (i 0).val
  let c8_i32_23 : BitVec 32 := 8#32
  let v54 : BitVec 32 := Scalar.muli arg0 c8_i32_23
  let c6_i32 : BitVec 32 := 6#32
  let v55 : BitVec 32 := Scalar.addi v54 c6_i32
  let v57 : Index := Scalar.indexCast v55
  ![0, v57.toNat]
def k0_off20 (i : grid0.Coords) : Fin 2 → Nat :=
  let arg0 : BitVec 32 := BitVec.ofNat 32 (i 0).val
  let c8_i32_23 : BitVec 32 := 8#32
  let v54 : BitVec 32 := Scalar.muli arg0 c8_i32_23
  let c6_i32 : BitVec 32 := 6#32
  let v55 : BitVec 32 := Scalar.addi v54 c6_i32
  let c0_i32_25 : BitVec 32 := 0#32
  ![v55.toNat, 0]
def k0_off21 (v58 : BitVec 32) : Fin 2 → Nat :=
  let c0_i32_26 : BitVec 32 := 0#32
  ![v58.toNat, 0]

def k0_off22 (i : grid0.Coords) : Fin 2 → Nat :=
  let c0_i32_28 : BitVec 32 := 0#32
  let v65 : Index := Scalar.indexCast c0_i32_28
  let arg0 : BitVec 32 := BitVec.ofNat 32 (i 0).val
  let c8_i32_27 : BitVec 32 := 8#32
  let v63 : BitVec 32 := Scalar.muli arg0 c8_i32_27
  let c7_i32 : BitVec 32 := 7#32
  let v64 : BitVec 32 := Scalar.addi v63 c7_i32
  let v66 : Index := Scalar.indexCast v64
  ![0, v66.toNat]
def k0_off23 (i : grid0.Coords) : Fin 2 → Nat :=
  let arg0 : BitVec 32 := BitVec.ofNat 32 (i 0).val
  let c8_i32_27 : BitVec 32 := 8#32
  let v63 : BitVec 32 := Scalar.muli arg0 c8_i32_27
  let c7_i32 : BitVec 32 := 7#32
  let v64 : BitVec 32 := Scalar.addi v63 c7_i32
  let c0_i32_29 : BitVec 32 := 0#32
  ![v64.toNat, 0]
def k0_off24 (v67 : BitVec 32) : Fin 2 → Nat :=
  let c0_i32_30 : BitVec 32 := 0#32
  ![v67.toNat, 0]

def k0_chk8 (v67 : BitVec 32) : Prop :=
  (∀ a, (k0_off24 v67) a + S1x64.size a ≤ S100000x64.size a)
theorem k0_off24_inb : ∀ (v67 : BitVec 32) (k0_hw8 : k0_chk8 v67), ∀ a, (k0_off24 v67) a + S1x64.size a ≤ S100000x64.size a := fun v67 k0_hw8 => k0_hw8

def k0_off25 (i : grid0.Coords) (c0_i32 : BitVec 32) : Fin 2 → Nat :=
  let arg0 : BitVec 32 := BitVec.ofNat 32 (i 0).val
  let c8_i32 : BitVec 32 := 8#32
  let v0 : BitVec 32 := Scalar.muli arg0 c8_i32
  let v1 : BitVec 32 := Scalar.addi v0 c0_i32
  let c0_i32_31 : BitVec 32 := 0#32
  ![v1.toNat, 0]
def k0_off26 (v4 : BitVec 32) : Fin 2 → Nat :=
  let c0_i32_32 : BitVec 32 := 0#32
  ![v4.toNat, 0]

def k0_chk1 (v4 : BitVec 32) : Prop :=
  (∀ a, (k0_off3 v4) a + S1x64.size a ≤ S100000x64.size a) ∧
  (∀ a, (k0_off26 v4) a + S1x64.size a ≤ S100000x64.size a)
theorem k0_off3_inb : ∀ (v4 : BitVec 32) (k0_hw1 : k0_chk1 v4), ∀ a, (k0_off3 v4) a + S1x64.size a ≤ S100000x64.size a := fun v4 k0_hw1 => k0_hw1.1
theorem k0_off26_inb : ∀ (v4 : BitVec 32) (k0_hw1 : k0_chk1 v4), ∀ a, (k0_off26 v4) a + S1x64.size a ≤ S100000x64.size a := fun v4 k0_hw1 => k0_hw1.2

def k0_off27 (v13 : BitVec 32) : Fin 2 → Nat :=
  let c0_i32_34 : BitVec 32 := 0#32
  ![v13.toNat, 0]

def k0_chk2 (v13 : BitVec 32) : Prop :=
  (∀ a, (k0_off6 v13) a + S1x64.size a ≤ S100000x64.size a) ∧
  (∀ a, (k0_off27 v13) a + S1x64.size a ≤ S100000x64.size a)
theorem k0_off6_inb : ∀ (v13 : BitVec 32) (k0_hw2 : k0_chk2 v13), ∀ a, (k0_off6 v13) a + S1x64.size a ≤ S100000x64.size a := fun v13 k0_hw2 => k0_hw2.1
theorem k0_off27_inb : ∀ (v13 : BitVec 32) (k0_hw2 : k0_chk2 v13), ∀ a, (k0_off27 v13) a + S1x64.size a ≤ S100000x64.size a := fun v13 k0_hw2 => k0_hw2.2

def k0_off28 (v22 : BitVec 32) : Fin 2 → Nat :=
  let c0_i32_36 : BitVec 32 := 0#32
  ![v22.toNat, 0]

def k0_chk3 (v22 : BitVec 32) : Prop :=
  (∀ a, (k0_off9 v22) a + S1x64.size a ≤ S100000x64.size a) ∧
  (∀ a, (k0_off28 v22) a + S1x64.size a ≤ S100000x64.size a)
theorem k0_off9_inb : ∀ (v22 : BitVec 32) (k0_hw3 : k0_chk3 v22), ∀ a, (k0_off9 v22) a + S1x64.size a ≤ S100000x64.size a := fun v22 k0_hw3 => k0_hw3.1
theorem k0_off28_inb : ∀ (v22 : BitVec 32) (k0_hw3 : k0_chk3 v22), ∀ a, (k0_off28 v22) a + S1x64.size a ≤ S100000x64.size a := fun v22 k0_hw3 => k0_hw3.2

def k0_off29 (v31 : BitVec 32) : Fin 2 → Nat :=
  let c0_i32_38 : BitVec 32 := 0#32
  ![v31.toNat, 0]

def k0_chk4 (v31 : BitVec 32) : Prop :=
  (∀ a, (k0_off12 v31) a + S1x64.size a ≤ S100000x64.size a) ∧
  (∀ a, (k0_off29 v31) a + S1x64.size a ≤ S100000x64.size a)
theorem k0_off12_inb : ∀ (v31 : BitVec 32) (k0_hw4 : k0_chk4 v31), ∀ a, (k0_off12 v31) a + S1x64.size a ≤ S100000x64.size a := fun v31 k0_hw4 => k0_hw4.1
theorem k0_off29_inb : ∀ (v31 : BitVec 32) (k0_hw4 : k0_chk4 v31), ∀ a, (k0_off29 v31) a + S1x64.size a ≤ S100000x64.size a := fun v31 k0_hw4 => k0_hw4.2

def k0_off30 (v40 : BitVec 32) : Fin 2 → Nat :=
  let c0_i32_40 : BitVec 32 := 0#32
  ![v40.toNat, 0]

def k0_chk5 (v40 : BitVec 32) : Prop :=
  (∀ a, (k0_off15 v40) a + S1x64.size a ≤ S100000x64.size a) ∧
  (∀ a, (k0_off30 v40) a + S1x64.size a ≤ S100000x64.size a)
theorem k0_off15_inb : ∀ (v40 : BitVec 32) (k0_hw5 : k0_chk5 v40), ∀ a, (k0_off15 v40) a + S1x64.size a ≤ S100000x64.size a := fun v40 k0_hw5 => k0_hw5.1
theorem k0_off30_inb : ∀ (v40 : BitVec 32) (k0_hw5 : k0_chk5 v40), ∀ a, (k0_off30 v40) a + S1x64.size a ≤ S100000x64.size a := fun v40 k0_hw5 => k0_hw5.2

def k0_off31 (v49 : BitVec 32) : Fin 2 → Nat :=
  let c0_i32_42 : BitVec 32 := 0#32
  ![v49.toNat, 0]

def k0_chk6 (v49 : BitVec 32) : Prop :=
  (∀ a, (k0_off18 v49) a + S1x64.size a ≤ S100000x64.size a) ∧
  (∀ a, (k0_off31 v49) a + S1x64.size a ≤ S100000x64.size a)
theorem k0_off18_inb : ∀ (v49 : BitVec 32) (k0_hw6 : k0_chk6 v49), ∀ a, (k0_off18 v49) a + S1x64.size a ≤ S100000x64.size a := fun v49 k0_hw6 => k0_hw6.1
theorem k0_off31_inb : ∀ (v49 : BitVec 32) (k0_hw6 : k0_chk6 v49), ∀ a, (k0_off31 v49) a + S1x64.size a ≤ S100000x64.size a := fun v49 k0_hw6 => k0_hw6.2

def k0_off32 (v58 : BitVec 32) : Fin 2 → Nat :=
  let c0_i32_44 : BitVec 32 := 0#32
  ![v58.toNat, 0]

def k0_chk7 (v58 : BitVec 32) : Prop :=
  (∀ a, (k0_off21 v58) a + S1x64.size a ≤ S100000x64.size a) ∧
  (∀ a, (k0_off32 v58) a + S1x64.size a ≤ S100000x64.size a)
theorem k0_off21_inb : ∀ (v58 : BitVec 32) (k0_hw7 : k0_chk7 v58), ∀ a, (k0_off21 v58) a + S1x64.size a ≤ S100000x64.size a := fun v58 k0_hw7 => k0_hw7.1
theorem k0_off32_inb : ∀ (v58 : BitVec 32) (k0_hw7 : k0_chk7 v58), ∀ a, (k0_off32 v58) a + S1x64.size a ≤ S100000x64.size a := fun v58 k0_hw7 => k0_hw7.2

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S2048x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2048x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S16x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .smem S1x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev scKind : Fin 1 → Kind := fun | 0 => .scScalar | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 0 | ⟨_ + 1, h⟩ => absurd h (Nat.not_lt.2 (Nat.le_add_left _ _))
-- ==== ReferenceIdeal.lean ====
abbrev S16384x64 : Shape := ⟨2, ![16384, 64]⟩
abbrev S15 : Shape := ⟨1, ![15]⟩
abbrev S100000x64 : Shape := ⟨2, ![100000, 64]⟩
abbrev S_ : Shape := ⟨0, ![]⟩
abbrev S16384 : Shape := ⟨1, ![16384]⟩
abbrev S15x1 : Shape := ⟨2, ![15, 1]⟩
abbrev S1 : Shape := ⟨1, ![1]⟩
abbrev S1x1 : Shape := ⟨2, ![1, 1]⟩
abbrev S15x64 : Shape := ⟨2, ![15, 64]⟩
abbrev S15x16384 : Shape := ⟨2, ![15, 16384]⟩

abbrev nBuf : Space → Nat
  | .hbm => 72
  | .vmem => 0
  | .smem => 0
  | _ => 0

abbrev bufTy : (tb : Table) → Fin (tcTables nBuf tb) → BufTy
  | .hbm, ⟨0, _⟩ => ⟨S16384x64, .f32⟩
  | .hbm, ⟨1, _⟩ => ⟨S16384x64, .f32⟩
  | .hbm, ⟨2, _⟩ => ⟨S15, .i32⟩
  | .hbm, ⟨3, _⟩ => ⟨S100000x64, .f32⟩
  | .hbm, ⟨4, _⟩ => ⟨S16384x64, .f32⟩
  | .hbm, ⟨5, _⟩ => ⟨S_, .f32⟩
  | .hbm, ⟨6, _⟩ => ⟨S16384, .f32⟩
  | .hbm, ⟨7, _⟩ => ⟨S16384, .f32⟩
  | .hbm, ⟨8, _⟩ => ⟨S_, .f32⟩
  | .hbm, ⟨9, _⟩ => ⟨S16384, .f32⟩
  | .hbm, ⟨10, _⟩ => ⟨S16384, .f32⟩
  | .hbm, ⟨11, _⟩ => ⟨S16384, .f32⟩
  | .hbm, ⟨12, _⟩ => ⟨S16384, .f32⟩
  | .hbm, ⟨13, _⟩ => ⟨S16384, .i1⟩
  | .hbm, ⟨14, _⟩ => ⟨S16384, .f32⟩
  | .hbm, ⟨15, _⟩ => ⟨S16384, .f32⟩
  | .hbm, ⟨16, _⟩ => ⟨S16384, .f32⟩
  | .hbm, ⟨17, _⟩ => ⟨S16384, .f32⟩
  | .hbm, ⟨18, _⟩ => ⟨S16384, .f32⟩
  | .hbm, ⟨19, _⟩ => ⟨S16384, .f32⟩
  | .hbm, ⟨20, _⟩ => ⟨S16384, .f32⟩
  | .hbm, ⟨21, _⟩ => ⟨S16384, .f32⟩
  | .hbm, ⟨22, _⟩ => ⟨S16384, .f32⟩
  | .hbm, ⟨23, _⟩ => ⟨S_, .i32⟩
  | .hbm, ⟨24, _⟩ => ⟨S15, .i32⟩
  | .hbm, ⟨25, _⟩ => ⟨S15, .i1⟩
  | .hbm, ⟨26, _⟩ => ⟨S_, .i32⟩
  | .hbm, ⟨27, _⟩ => ⟨S15, .i32⟩
  | .hbm, ⟨28, _⟩ => ⟨S15, .i32⟩
  | .hbm, ⟨29, _⟩ => ⟨S15, .i32⟩
  | .hbm, ⟨30, _⟩ => ⟨S15x1, .i32⟩
  | .hbm, ⟨31, _⟩ => ⟨S1, .i32⟩
  | .hbm, ⟨32, _⟩ => ⟨S_, .i32⟩
  | .hbm, ⟨33, _⟩ => ⟨S15x1, .i32⟩
  | .hbm, ⟨34, _⟩ => ⟨S15x1, .i1⟩
  | .hbm, ⟨35, _⟩ => ⟨S1x1, .i32⟩
  | .hbm, ⟨36, _⟩ => ⟨S15x1, .i32⟩
  | .hbm, ⟨37, _⟩ => ⟨S15x1, .i1⟩
  | .hbm, ⟨38, _⟩ => ⟨S15x1, .i1⟩
  | .hbm, ⟨39, _⟩ => ⟨S_, .i1⟩
  | .hbm, ⟨40, _⟩ => ⟨S15, .i1⟩
  | .hbm, ⟨41, _⟩ => ⟨S15x64, .f32⟩
  | .hbm, ⟨42, _⟩ => ⟨S15x64, .i1⟩
  | .hbm, ⟨43, _⟩ => ⟨S_, .f32⟩
  | .hbm, ⟨44, _⟩ => ⟨S15x64, .f32⟩
  | .hbm, ⟨45, _⟩ => ⟨S15x64, .f32⟩
  | .hbm, ⟨46, _⟩ => ⟨S16384x64, .f32⟩
  | .hbm, ⟨47, _⟩ => ⟨S15x16384, .f32⟩
  | .hbm, ⟨48, _⟩ => ⟨S15x16384, .f32⟩
  | .hbm, ⟨49, _⟩ => ⟨S_, .f32⟩
  | .hbm, ⟨50, _⟩ => ⟨S15x16384, .f32⟩
  | .hbm, ⟨51, _⟩ => ⟨S15x16384, .f32⟩
  | .hbm, ⟨52, _⟩ => ⟨S15x16384, .f32⟩
  | .hbm, ⟨53, _⟩ => ⟨S15x16384, .f32⟩
  | .hbm, ⟨54, _⟩ => ⟨S15x16384, .i1⟩
  | .hbm, ⟨55, _⟩ => ⟨S15x16384, .f32⟩
  | .hbm, ⟨56, _⟩ => ⟨S15x16384, .f32⟩
  | .hbm, ⟨57, _⟩ => ⟨S15x16384, .f32⟩
  | .hbm, ⟨58, _⟩ => ⟨S15x16384, .f32⟩
  | .hbm, ⟨59, _⟩ => ⟨S15x16384, .f32⟩
  | .hbm, ⟨60, _⟩ => ⟨S15x16384, .f32⟩
  | .hbm, ⟨61, _⟩ => ⟨S15x16384, .f32⟩
  | .hbm, ⟨62, _⟩ => ⟨S15x16384, .f32⟩
  | .hbm, ⟨63, _⟩ => ⟨S15x16384, .f32⟩
  | .hbm, ⟨64, _⟩ => ⟨S_, .f32⟩
  | .hbm, ⟨65, _⟩ => ⟨S16384, .f32⟩
  | .hbm, ⟨66, _⟩ => ⟨S16384, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | _, _ => ⟨S16384x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_call0_v0 : Ref sig .tc := ⟨.hbm, 7, rfl⟩
abbrev main_call0_call0_cst : Ref sig .tc := ⟨.hbm, 8, rfl⟩
abbrev main_call0_call0_v0 : Ref sig .tc := ⟨.hbm, 9, rfl⟩
abbrev main_call0_call0_v1 : Ref sig .tc := ⟨.hbm, 10, rfl⟩
abbrev main_call0_call0_v2 : Ref sig .tc := ⟨.hbm, 11, rfl⟩
abbrev main_call0_call0_v3 : Ref sig .tc := ⟨.hbm, 12, rfl⟩
abbrev main_call0_call0_v4 : Ref sig .tc := ⟨.hbm, 13, rfl⟩
abbrev main_call0_call0_v5 : Ref sig .tc := ⟨.hbm, 14, rfl⟩
abbrev main_call0_call0_v6 : Ref sig .tc := ⟨.hbm, 15, rfl⟩
abbrev main_call0_call0_v7 : Ref sig .tc := ⟨.hbm, 16, rfl⟩
abbrev main_call0_call0_v8 : Ref sig .tc := ⟨.hbm, 17, rfl⟩
abbrev main_call0_call0_v9 : Ref sig .tc := ⟨.hbm, 18, rfl⟩
abbrev main_call0_call0_v10 : Ref sig .tc := ⟨.hbm, 19, rfl⟩
abbrev main_call0_call0_v11 : Ref sig .tc := ⟨.hbm, 20, rfl⟩
abbrev main_call0_v1 : Ref sig .tc := ⟨.hbm, 21, rfl⟩
abbrev main_v2 : Ref sig .tc := ⟨.hbm, 22, rfl⟩
abbrev main_call1_c : Ref sig .tc := ⟨.hbm, 23, rfl⟩
abbrev main_call1_v0 : Ref sig .tc := ⟨.hbm, 24, rfl⟩
abbrev main_call1_v1 : Ref sig .tc := ⟨.hbm, 25, rfl⟩
abbrev main_call1_c_0 : Ref sig .tc := ⟨.hbm, 26, rfl⟩
abbrev main_call1_v2 : Ref sig .tc := ⟨.hbm, 27, rfl⟩
abbrev main_call1_v3 : Ref sig .tc := ⟨.hbm, 28, rfl⟩
abbrev main_call1_v4 : Ref sig .tc := ⟨.hbm, 29, rfl⟩
abbrev main_call1_v5 : Ref sig .tc := ⟨.hbm, 30, rfl⟩
abbrev main_call1_c_1 : Ref sig .tc := ⟨.hbm, 31, rfl⟩
abbrev main_call1_c_2 : Ref sig .tc := ⟨.hbm, 32, rfl⟩
abbrev main_call1_v6 : Ref sig .tc := ⟨.hbm, 33, rfl⟩
abbrev main_call1_v7 : Ref sig .tc := ⟨.hbm, 34, rfl⟩
abbrev main_call1_v8 : Ref sig .tc := ⟨.hbm, 35, rfl⟩
abbrev main_call1_v9 : Ref sig .tc := ⟨.hbm, 36, rfl⟩
abbrev main_call1_v10 : Ref sig .tc := ⟨.hbm, 37, rfl⟩
abbrev main_call1_v11 : Ref sig .tc := ⟨.hbm, 38, rfl⟩
abbrev main_call1_c_3 : Ref sig .tc := ⟨.hbm, 39, rfl⟩
abbrev main_call1_v12 : Ref sig .tc := ⟨.hbm, 40, rfl⟩
abbrev main_call1_v13 : Ref sig .tc := ⟨.hbm, 41, rfl⟩
abbrev main_call1_v14 : Ref sig .tc := ⟨.hbm, 42, rfl⟩
abbrev main_call1_cst : Ref sig .tc := ⟨.hbm, 43, rfl⟩
abbrev main_call1_v15 : Ref sig .tc := ⟨.hbm, 44, rfl⟩
abbrev main_v3 : Ref sig .tc := ⟨.hbm, 45, rfl⟩
abbrev main_v4 : Ref sig .tc := ⟨.hbm, 46, rfl⟩
abbrev main_v5 : Ref sig .tc := ⟨.hbm, 47, rfl⟩
abbrev main_call2_v0 : Ref sig .tc := ⟨.hbm, 48, rfl⟩
abbrev main_call2_call0_cst : Ref sig .tc := ⟨.hbm, 49, rfl⟩
abbrev main_call2_call0_v0 : Ref sig .tc := ⟨.hbm, 50, rfl⟩
abbrev main_call2_call0_v1 : Ref sig .tc := ⟨.hbm, 51, rfl⟩
abbrev main_call2_call0_v2 : Ref sig .tc := ⟨.hbm, 52, rfl⟩
abbrev main_call2_call0_v3 : Ref sig .tc := ⟨.hbm, 53, rfl⟩
abbrev main_call2_call0_v4 : Ref sig .tc := ⟨.hbm, 54, rfl⟩
abbrev main_call2_call0_v5 : Ref sig .tc := ⟨.hbm, 55, rfl⟩
abbrev main_call2_call0_v6 : Ref sig .tc := ⟨.hbm, 56, rfl⟩
abbrev main_call2_call0_v7 : Ref sig .tc := ⟨.hbm, 57, rfl⟩
abbrev main_call2_call0_v8 : Ref sig .tc := ⟨.hbm, 58, rfl⟩
abbrev main_call2_call0_v9 : Ref sig .tc := ⟨.hbm, 59, rfl⟩
abbrev main_call2_call0_v10 : Ref sig .tc := ⟨.hbm, 60, rfl⟩
abbrev main_call2_call0_v11 : Ref sig .tc := ⟨.hbm, 61, rfl⟩
abbrev main_call2_v1 : Ref sig .tc := ⟨.hbm, 62, rfl⟩
abbrev main_v6 : Ref sig .tc := ⟨.hbm, 63, rfl⟩
abbrev main_cst_0 : Ref sig .tc := ⟨.hbm, 64, rfl⟩
abbrev main_v7 : Ref sig .tc := ⟨.hbm, 65, rfl⟩
abbrev main_v8 : Ref sig .tc := ⟨.hbm, 66, rfl⟩
abbrev main_cst_1 : Ref sig .tc := ⟨.hbm, 67, rfl⟩
abbrev main_v9 : Ref sig .tc := ⟨.hbm, 68, rfl⟩
abbrev main_cst_2 : Ref sig .tc := ⟨.hbm, 69, rfl⟩
abbrev main_v10 : Ref sig .tc := ⟨.hbm, 70, rfl⟩
abbrev main_v11 : Ref sig .tc := ⟨.hbm, 71, rfl⟩

abbrev nD : Nat := 1
abbrev τ : Topo := Topo.v7x

variable {F : FTy → Type} [FloatOps F]
-- ==== Proof.Setup.lean ====
/-
  The certificate's set-up: the SparseCore launch as the library's launch theorem sees it, and the resource algebra.
  Three components stand side by side in the algebra: the rounds of the launch's handshakes, the rounds of the
  TensorCore pipeline's staging cells, and the counters that the gather's own copies take their invariants from.
-/
module

public import proofs.«01_k».proof.Proof.Gen.KernelIdeal
public import proofs.«01_k».proof.Proof.Gen.KernelIdeal.Launch
public import proofs.«01_k».proof.Proof.Gen.KernelIdeal.Points
public import Idealize.ShloMosaic.Lib.SparseCore.Quiescent
public import Idealize.ShloMosaic.Lib.StableHlo.Run
public import Idealize.ShloMosaic.Lib.Pipeline.Kit
public import Idealize.ShloMosaic.Lib.Pipeline.RegionArraysS
public import Idealize.ShloMosaic.Lib.Tactic

@[expose] public section

noncomputable section

namespace Cert.Proof.Skip

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-- The labels below the SparseCore call: the two kernels' bodies and the pipeline's entry. -/
abbrev ΛP : Labels := Pipeline.Sig Λ₀ (Fin 1) fun p => (pcfgs (F := F) p).Adm
/-- The one SparseCore call. -/
abbrev K : SparseCore.Cfg τ sig (ΛP (F := F)) 1 := sc (F := F)
/-- The bodies below the call. -/
abbrev D [FloatOps F] : Defs nD τ sig (Elt F) (ΛP (F := F)) := Pipeline.defs pcfgs defs₀
/-- No body runs a while loop of the certificate's: no variants beyond the pipeline's. -/
abbrev 𝒱₀ : Variants := Variants.none
abbrev 𝒱 : Variants := 𝒱₀.lift
abbrev v₀ : 𝒱.V := Sum.inl none

/-- What the launch theorem asks of the signature: handshake semaphores distinct and unscoped, no shared buffer of a task's. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The handshakes' rounds; -/
abbrev UH : Type := URounds (GSem nD τ sig) ℕ
/-- the pipeline's rounds beside the counters; -/
abbrev UPC : Type := UR sig nD τ × Counters
/-- all three. -/
abbrev UU : Type := UH × UPC

local notation "𝕄" => MT nD τ sig (HIx 1) (Elt F) ℕ UU ℕ

/-- The handshakes' component, embedded; -/
abbrev EH : Emb UH (MT nD τ sig (HIx 1) (Elt F) ℕ UU ℕ) := embL
/-- the pipeline's and the counters' together; -/
abbrev ER : Emb UPC (MT nD τ sig (HIx 1) (Elt F) ℕ UU ℕ) := embR
/-- the pipeline's alone. -/
def EP : Emb (UR sig nD τ) (MT nD τ sig (HIx 1) (Elt F) ℕ UU ℕ) := (Emb.inl : Emb (UR sig nD τ) UPC).trans (ER (F := F))

instance EP_landsIn : (EP (F := F)).LandsIn (upEmb : UEmb _ 𝕄) := by
  unfold EP; infer_instance

end Cert.Proof.Skip

end
-- ==== Proof.Gather.lean ====
/-
  One SparseCore's scalar subcore: its index row's copy to scalar memory, then eight copies of one table row each, all
  outstanding at once on one semaphore, then the eight waits. The run is written once, at a symbolic core, and carries
  the value: each row of the result this core owns ends as the table's row that the index names.
-/
module

public import proofs.«01_k».proof.Proof.Setup
public import Idealize.ShloMosaic.Lib.ShareLeaves
public import Idealize.ShloMosaic.Lib.Pointwise.Index

@[expose] public section

noncomputable section

namespace Cert.Proof.Skip

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "eW" => (Memref.whole Cert.KernelIdeal.main_arg3_scs : Memref Cert.KernelIdeal.sig Kind.scScalar Space.hbm Cert.KernelIdeal.S100000x64 EltTy.f32)
local notation "iW" => (Memref.whole Cert.KernelIdeal.main_v2_scs : Memref Cert.KernelIdeal.sig Kind.scScalar Space.hbm Cert.KernelIdeal.S1x16 EltTy.i32)
local notation "oW" => (Memref.whole Cert.KernelIdeal.main_v3_scs : Memref Cert.KernelIdeal.sig Kind.scScalar Space.hbm Cert.KernelIdeal.S16x64 EltTy.f32)
local notation "sW" => (Memref.whole Cert.KernelIdeal.cc0_scratch0 : Memref Cert.KernelIdeal.sig Kind.scScalar Space.smem Cert.KernelIdeal.S1x16 EltTy.i32)

variable [FloatOps F]

/-- The grid point that SparseCore `c`'s sequencer runs. -/
def coordsS (c : Fin (grid0.bound 0)) : grid0.Coords := fun | 0 => c | ⟨_ + 1, h⟩ => absurd h (Nat.not_lt.2 (Nat.le_add_left _ _))

/-- The sequencer of SparseCore `i 0`. -/
abbrev Si (d : Dev nD) (i : grid0.Coords) : Thread nD τ := S d ((i 0).castLE hcore0)

/-- Row `r` of this core's eight, as the body slices it out of the result. -/
abbrev oR (off : Fin 2 → Nat) (h : ∀ a, off a + S1x64.size a ≤ S16x64.size a) : Memref sig .scScalar .hbm S64 .f32 :=
  ((oW).slice (Rect.unit (s := S16x64) off S1x64.size h) (fun _ => rfl)).squeeze S64 squeezes_S1x64_S64

abbrev oP (d : Dev nD) (i : grid0.Coords) (off : Fin 2 → Nat) (h : ∀ a, off a + S1x64.size a ≤ S16x64.size a) (f : Buf (Elt F) ((oR off h).view.loc (Si d i))) : sProp 𝕄 :=
  (oR off h).view.loc (Si d i) ↦[(oR off h).view.set]{fullShare} f

/-- A row number below the table's height places its row inside the table. -/
theorem row_inb (v : BitVec 32) (h : v.toNat < 100000) : ∀ a, (![v.toNat, 0] : Fin 2 → Nat) a + S1x64.size a ≤ S100000x64.size a
  | 0 => by show v.toNat + 1 ≤ 100000; omega
  | 1 => by show 0 + 64 ≤ 64; omega

theorem chk1_of_lt (v : BitVec 32) (h : v.toNat < 100000) : k0_chk1 v := ⟨row_inb v h, row_inb v h⟩
theorem chk2_of_lt (v : BitVec 32) (h : v.toNat < 100000) : k0_chk2 v := ⟨row_inb v h, row_inb v h⟩
theorem chk3_of_lt (v : BitVec 32) (h : v.toNat < 100000) : k0_chk3 v := ⟨row_inb v h, row_inb v h⟩
theorem chk4_of_lt (v : BitVec 32) (h : v.toNat < 100000) : k0_chk4 v := ⟨row_inb v h, row_inb v h⟩
theorem chk5_of_lt (v : BitVec 32) (h : v.toNat < 100000) : k0_chk5 v := ⟨row_inb v h, row_inb v h⟩
theorem chk6_of_lt (v : BitVec 32) (h : v.toNat < 100000) : k0_chk6 v := ⟨row_inb v h, row_inb v h⟩
theorem chk7_of_lt (v : BitVec 32) (h : v.toNat < 100000) : k0_chk7 v := ⟨row_inb v h, row_inb v h⟩
theorem chk8_of_lt (v : BitVec 32) (h : v.toNat < 100000) : k0_chk8 v := row_inb v h

/-- What the body reads back of the fetched index row is the row's word there. -/
theorem word_eq (d : Dev nD) (i : grid0.Coords) (fi : Buf (Elt F) ((iW).view.loc (Si d i))) (fs : Buf (Elt F) ((sW).view.loc (Si d i)))
    {off : Fin 2 → Nat} (h : ∀ a, off a + S1x1.size a ≤ S1x16.size a) (hn : 0 < (Rect.unit (s := S1x16) off S1x1.size h).toLoadRect.shape.numel) :
    View.readAt (Elt F) (sW).view (Rect.unit (s := S1x16) off S1x1.size h).toLoadRect
      (View.write (Elt F) (sW).view fs (ReadAs.same.apply (View.read (Elt F) (iW).view fi)) Finset.univ) (Shape.Idx.first hn)
    = fi ((Rect.unit (s := S1x16) off S1x1.size h).toLoadRect.idx (Shape.Idx.first hn)) := by
  rw [View.readAt_apply, View.write_whole_univ]; rfl

theorem word_lt (d : Dev nD) (i : grid0.Coords) (fi : Buf (Elt F) ((iW).view.loc (Si d i))) (fs : Buf (Elt F) ((sW).view.loc (Si d i)))
    (hidx : ∀ x : S1x16.Idx, (fi x).toNat < 100000)
    {off : Fin 2 → Nat} {h : ∀ a, off a + S1x1.size a ≤ S1x16.size a} {hn : 0 < (Rect.unit (s := S1x16) off S1x1.size h).toLoadRect.shape.numel} :
    (View.readAt (Elt F) (sW).view (Rect.unit (s := S1x16) off S1x1.size h).toLoadRect
      (View.write (Elt F) (sW).view fs (ReadAs.same.apply (View.read (Elt F) (iW).view fi)) Finset.univ) (Shape.Idx.first hn)).toNat < 100000 := by
  rw [word_eq]; exact hidx _

/-! ## What the gather is to leave -/

/-- The gathered rows: row `r` of the result is the table's row that word `r` of the index row names (a word past the
    table's end, which no claim meets, names the last row). -/
def gat (fe : S100000x64.Idx → Elt F .f32) (fi : S1x16.Idx → Elt F .i32) : S16x64.Idx → Elt F .f32 := fun x =>
  fe (ix2 (n0 := 100000) (n1 := 64) ⟨min (fi (ix2 (n0 := 1) (n1 := 16) 0 (x 0))).toNat 99999, by omega⟩ (x 1))

/-- A squeezed row slice's element `y` lies at the slice's row, column `y`. -/
theorem row_emb_o (off : Fin 2 → Nat) (h : ∀ a, off a + S1x64.size a ≤ S16x64.size a) (y : S64.Idx) :
    ((oR off h).view.emb y 0 : Nat) = off 0 ∧ ((oR off h).view.emb y 1 : Nat) = off 1 + (y 0 : Nat) := by
  have e : ∀ a, ((oR off h).view.emb y a : Nat) = off a + 1 * (Shape.reshapeEquiv (s := S1x64) (s' := S64) squeezes_S1x64_S64.numel_eq y a : Nat) := fun a => rfl
  rw [e, e, Shape.reshapeEquiv_cons_one]
  exact ⟨by show off 0 + 1 * 0 = _; omega, by show off 1 + 1 * (y 0 : Nat) = _; omega⟩

/-- A row of the table, as the body slices it. -/
abbrev eR (off : Fin 2 → Nat) (h : ∀ a, off a + S1x64.size a ≤ S100000x64.size a) : Memref sig .scScalar .hbm S64 .f32 :=
  ((eW).slice (Rect.unit (s := S100000x64) off S1x64.size h) (fun _ => rfl)).squeeze S64 squeezes_S1x64_S64

theorem row_emb_e (off : Fin 2 → Nat) (h : ∀ a, off a + S1x64.size a ≤ S100000x64.size a) (y : S64.Idx) :
    ((eR off h).view.emb y 0 : Nat) = off 0 ∧ ((eR off h).view.emb y 1 : Nat) = off 1 + (y 0 : Nat) := by
  have e : ∀ a, ((eR off h).view.emb y a : Nat) = off a + 1 * (Shape.reshapeEquiv (s := S1x64) (s' := S64) squeezes_S1x64_S64.numel_eq y a : Nat) := fun a => rfl
  rw [e, e, Shape.reshapeEquiv_cons_one]
  exact ⟨by show off 0 + 1 * 0 = _; omega, by show off 1 + 1 * (y 0 : Nat) = _; omega⟩

/-- ONE ROW: what its copy leaves in the result's row `n` is what the gather is to leave there. -/
theorem row_landed (d : Dev nD) (i : grid0.Coords) (n : Fin 16) {off : Fin 2 → Nat} (h : ∀ a, off a + S1x64.size a ≤ S16x64.size a)
    (hoff : off = ![n.val, 0]) (g : Buf (Elt F) ((oW).view.loc (Si d i))) (fe : Buf (Elt F) ((eW).view.loc (Si d i)))
    (fi : Buf (Elt F) ((iW).view.loc (Si d i))) (v : BitVec 32) (hv : v = fi (ix2 (n0 := 1) (n1 := 16) 0 n)) (hlt : v.toNat < 100000)
    {soff : Fin 2 → Nat} (hs : ∀ a, soff a + S1x64.size a ≤ S100000x64.size a) (hsoff : soff = ![v.toNat, 0]) :
    ∀ x ∈ (oR off h).view.set, (oR off h).view.writes (Elt F) g [⟨Rect.whole S64, ReadAs.same.apply ((eR soff hs).view.read (Elt F) fe)⟩] x
      = gat fe fi x := by
  intro x hx
  obtain ⟨y, -, rfl⟩ := Finset.mem_map.mp hx
  rw [← View.write_univ_eq_writes_whole, View.writes_nil, View.write_emb_of_mem _ _ (Finset.mem_univ y)]
  obtain ⟨o0, o1⟩ := row_emb_o off h y
  obtain ⟨e0, e1⟩ := row_emb_e soff hs y
  show fe ((eR soff hs).view.emb y) = gat fe fi ((oR off h).view.emb y)
  refine congrArg fe ?_
  have hn : ((oR off h).view.emb y 0 : Fin 16) = n := Fin.ext (o0.trans (congrFun hoff 0))
  funext a
  match a with
  | 0 =>
    refine Fin.ext ?_
    show ((eR soff hs).view.emb y 0 : Nat) = min (fi (ix2 (n0 := 1) (n1 := 16) 0 ((oR off h).view.emb y 0 : Fin 16))).toNat 99999
    rw [hn, ← hv, e0, hsoff]
    show v.toNat = min v.toNat 99999
    omega
  | 1 =>
    refine Fin.ext ?_
    show ((eR soff hs).view.emb y 1 : Nat) = ((oR off h).view.emb y 1 : Nat)
    rw [o1, e1, hoff, hsoff]; rfl

/-- The word read at column `n` of the fetched index row is the row's word `n`. -/
theorem word_at (d : Dev nD) (i : grid0.Coords) (fi : Buf (Elt F) ((iW).view.loc (Si d i))) (fs : Buf (Elt F) ((sW).view.loc (Si d i)))
    (n : Fin 16) {off : Fin 2 → Nat} {h : ∀ a, off a + S1x1.size a ≤ S1x16.size a} (hoff : off = ![0, n.val])
    {hn : 0 < (Rect.unit (s := S1x16) off S1x1.size h).toLoadRect.shape.numel} :
    View.readAt (Elt F) (sW).view (Rect.unit (s := S1x16) off S1x1.size h).toLoadRect
      (View.write (Elt F) (sW).view fs (ReadAs.same.apply (View.read (Elt F) (iW).view fi)) Finset.univ) (Shape.Idx.first hn)
    = fi (ix2 (n0 := 1) (n1 := 16) 0 n) := by
  subst hoff
  rw [word_eq]
  refine congrArg fi ?_
  funext a
  match a with
  | 0 => rfl
  | 1 => exact Fin.ext (show n.val + 1 * 0 = n.val by omega)

/-- Row `k` of core `i`'s eight. -/
def rowOf (i : grid0.Coords) (k : Fin 8) : Fin 16 := ⟨8 * (i 0).val + k.val, by have : (i 0).val < 2 := (i 0).isLt; have := k.isLt; omega⟩

/-- THE RUN on core `i`'s sequencer, from the table under eight shares of its own, the index row, the scratch row, the
    core's eight rows of the result and the two semaphores at zero: the same back, each row gathered. -/
theorem gather_run (d : Dev nD) (i : grid0.Coords) (O : CellTallies nD τ sig (HIx 1)) (W : Waits sig (HIx 1))
    (q : Fin 8 → PosShare TreeShare) (qi : PosShare TreeShare)
    (fe : Buf (Elt F) ((eW).view.loc (Si d i))) (fi : Buf (Elt F) ((iW).view.loc (Si d i)))
    (fs : Buf (Elt F) ((sW).view.loc (Si d i)))
    (g : Fin 8 → Buf (Elt F) ((oW).view.loc (Si d i)))
    (hidx : ∀ x : S1x16.Idx, (fi x).toNat < 100000)
    (_plan : Transfers.BatchOf (Si d i) (SemLoc.dma (sig := sig) cc0_scratch2.sem) 8) :
    (iprop(Transfers.MayWaits (Si d i) (none : HIx 1) O
        ∗ ((eW).view.loc (Si d i) ↦{q 0} fe)
        ∗ ((eW).view.loc (Si d i) ↦{q 1} fe)
        ∗ ((eW).view.loc (Si d i) ↦{q 2} fe)
        ∗ ((eW).view.loc (Si d i) ↦{q 3} fe)
        ∗ ((eW).view.loc (Si d i) ↦{q 4} fe)
        ∗ ((eW).view.loc (Si d i) ↦{q 5} fe)
        ∗ ((eW).view.loc (Si d i) ↦{q 6} fe)
        ∗ ((eW).view.loc (Si d i) ↦{q 7} fe)
        ∗ ((iW).view.loc (Si d i) ↦{qi} fi)
        ∗ ((sW).view.loc (Si d i) ↦{fullShare} fs)
        ∗ oP d i (k0_off2 i) (k0_off2_inb i) (g 0)
        ∗ oP d i (k0_off5 i) (k0_off5_inb i) (g 1)
        ∗ oP d i (k0_off8 i) (k0_off8_inb i) (g 2)
        ∗ oP d i (k0_off11 i) (k0_off11_inb i) (g 3)
        ∗ oP d i (k0_off14 i) (k0_off14_inb i) (g 4)
        ∗ oP d i (k0_off17 i) (k0_off17_inb i) (g 5)
        ∗ oP d i (k0_off20 i) (k0_off20_inb i) (g 6)
        ∗ oP d i (k0_off23 i) (k0_off23_inb i) (g 7)
        ∗ semVal (Si d i, SemLoc.dma cc0_scratch1.sem) 0 ∗ semVal (Si d i, SemLoc.dma cc0_scratch2.sem) 0
        ∗ owes (Si d i) O W) : sProp 𝕄)
      ⊢ wp frame (wpE (defs₀ (F := F)) 𝒱₀ (Si d i) none) Set.univ
          (cc0_gather_kernel i eW (Memref.isWhole_whole _) iW (Memref.isWhole_whole _) oW (Memref.isWhole_whole _)
            sW (Memref.isWhole_whole _) cc0_scratch1 cc0_scratch2)
          fun _ => iprop((∃ fs', (sW).view.loc (Si d i) ↦{fullShare} fs')
            ∗ ((eW).view.loc (Si d i) ↦{q 0} fe)
            ∗ ((eW).view.loc (Si d i) ↦{q 1} fe)
            ∗ ((eW).view.loc (Si d i) ↦{q 2} fe)
            ∗ ((eW).view.loc (Si d i) ↦{q 3} fe)
            ∗ ((eW).view.loc (Si d i) ↦{q 4} fe)
            ∗ ((eW).view.loc (Si d i) ↦{q 5} fe)
            ∗ ((eW).view.loc (Si d i) ↦{q 6} fe)
            ∗ ((eW).view.loc (Si d i) ↦{q 7} fe)
            ∗ ((iW).view.loc (Si d i) ↦{qi} fi)
            ∗ oP d i (k0_off2 i) (k0_off2_inb i) (gat fe fi)
            ∗ oP d i (k0_off5 i) (k0_off5_inb i) (gat fe fi)
            ∗ oP d i (k0_off8 i) (k0_off8_inb i) (gat fe fi)
            ∗ oP d i (k0_off11 i) (k0_off11_inb i) (gat fe fi)
            ∗ oP d i (k0_off14 i) (k0_off14_inb i) (gat fe fi)
            ∗ oP d i (k0_off17 i) (k0_off17_inb i) (gat fe fi)
            ∗ oP d i (k0_off20 i) (k0_off20_inb i) (gat fe fi)
            ∗ oP d i (k0_off23 i) (k0_off23_inb i) (gat fe fi)
            ∗ semVal (Si d i, SemLoc.dma cc0_scratch1.sem) 0 ∗ semVal (Si d i, SemLoc.dma cc0_scratch2.sem) 0
            ∗ ∃ W', owes (Si d i) O W') := by
  iintro ⟨#Hmw, He0, He1, He2, He3, He4, He5, He6, He7, Hi, Hs, Ho0, Ho1, Ho2, Ho3, Ho4, Ho5, Ho6, Ho7, Hc1, Hc2, HO⟩
  sl_unfold [cc0_gather_kernel]
  sl_exec (disch := first
    | exact chk1_of_lt _ (word_lt _ _ _ _ hidx) | exact chk2_of_lt _ (word_lt _ _ _ _ hidx) | exact chk3_of_lt _ (word_lt _ _ _ _ hidx)
    | exact chk4_of_lt _ (word_lt _ _ _ _ hidx) | exact chk5_of_lt _ (word_lt _ _ _ _ hidx) | exact chk6_of_lt _ (word_lt _ _ _ _ hidx)
    | exact chk7_of_lt _ (word_lt _ _ _ _ hidx) | exact chk8_of_lt _ (word_lt _ _ _ _ hidx))
  sl_step
  isplitl [Hs]; · iexists _; iexact Hs
  isplitl [He0]; · iexact He0
  isplitl [He1]; · iexact He1
  isplitl [He2]; · iexact He2
  isplitl [He3]; · iexact He3
  isplitl [He4]; · iexact He4
  isplitl [He5]; · iexact He5
  isplitl [He6]; · iexact He6
  isplitl [He7]; · iexact He7
  isplitl [Hi]; · iexact Hi
  isplitl [Ho0]
  · iapply (Entails.of_eq (pointsTo_congr (row_landed d i (rowOf i 0) (k0_off2_inb i) (k0_off2_eq i) _ fe fi _
      (word_at d i fi fs (rowOf i 0) (off := k0_off1 i) (h := k0_off1_inb i) (k0_off1_eq i)) (word_lt d i fi fs hidx) _ rfl)))
    iexact Ho0
  isplitl [Ho1]
  · iapply (Entails.of_eq (pointsTo_congr (row_landed d i (rowOf i 1) (k0_off5_inb i) (k0_off5_eq i) _ fe fi _
      (word_at d i fi fs (rowOf i 1) (off := k0_off4 i) (h := k0_off4_inb i) (k0_off4_eq i)) (word_lt d i fi fs hidx) _ rfl)))
    iexact Ho1
  isplitl [Ho2]
  · iapply (Entails.of_eq (pointsTo_congr (row_landed d i (rowOf i 2) (k0_off8_inb i) (k0_off8_eq i) _ fe fi _
      (word_at d i fi fs (rowOf i 2) (off := k0_off7 i) (h := k0_off7_inb i) (k0_off7_eq i)) (word_lt d i fi fs hidx) _ rfl)))
    iexact Ho2
  isplitl [Ho3]
  · iapply (Entails.of_eq (pointsTo_congr (row_landed d i (rowOf i 3) (k0_off11_inb i) (k0_off11_eq i) _ fe fi _
      (word_at d i fi fs (rowOf i 3) (off := k0_off10 i) (h := k0_off10_inb i) (k0_off10_eq i)) (word_lt d i fi fs hidx) _ rfl)))
    iexact Ho3
  isplitl [Ho4]
  · iapply (Entails.of_eq (pointsTo_congr (row_landed d i (rowOf i 4) (k0_off14_inb i) (k0_off14_eq i) _ fe fi _
      (word_at d i fi fs (rowOf i 4) (off := k0_off13 i) (h := k0_off13_inb i) (k0_off13_eq i)) (word_lt d i fi fs hidx) _ rfl)))
    iexact Ho4
  isplitl [Ho5]
  · iapply (Entails.of_eq (pointsTo_congr (row_landed d i (rowOf i 5) (k0_off17_inb i) (k0_off17_eq i) _ fe fi _
      (word_at d i fi fs (rowOf i 5) (off := k0_off16 i) (h := k0_off16_inb i) (k0_off16_eq i)) (word_lt d i fi fs hidx) _ rfl)))
    iexact Ho5
  isplitl [Ho6]
  · iapply (Entails.of_eq (pointsTo_congr (row_landed d i (rowOf i 6) (k0_off20_inb i) (k0_off20_eq i) _ fe fi _
      (word_at d i fi fs (rowOf i 6) (off := k0_off19 i) (h := k0_off19_inb i) (k0_off19_eq i)) (word_lt d i fi fs hidx) _ rfl)))
    iexact Ho6
  isplitl [Ho7]
  · iapply (Entails.of_eq (pointsTo_congr (row_landed d i (rowOf i 7) (k0_off23_inb i) (k0_off23_eq i) _ fe fi _
      (word_at d i fi fs (rowOf i 7) (off := k0_off22 i) (h := k0_off22_inb i) (k0_off22_eq i)) (word_lt d i fi fs hidx) _ rfl)))
    iexact Ho7
  isplitl [Hc1]; · iexact Hc1
  isplitl [Hc2]; · iexact Hc2
  iexists _; iexact HO

end Cert.Proof.Skip

end
-- ==== Proof.Call.lean ====
/-
  The SparseCore call as the launch sees it: what the TensorCore hands each of the two sequencers (half a share of the
  table and of the index row, and eight rows of the result), what comes back (those rows gathered), and the obligation
  that the sequencer's body meets.
-/
module

public import proofs.«01_k».proof.Proof.Gather

@[expose] public section

noncomputable section

namespace Cert.Proof.Skip

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ShareLeaves

variable {F : FTy → Type}

local notation "𝕄" => MT nD τ sig (HIx 1) (Elt F) ℕ UU ℕ

local notation "eW" => (Memref.whole Cert.KernelIdeal.main_arg3_scs : Memref Cert.KernelIdeal.sig Kind.scScalar Space.hbm Cert.KernelIdeal.S100000x64 EltTy.f32)
local notation "iW" => (Memref.whole Cert.KernelIdeal.main_v2_scs : Memref Cert.KernelIdeal.sig Kind.scScalar Space.hbm Cert.KernelIdeal.S1x16 EltTy.i32)
local notation "oW" => (Memref.whole Cert.KernelIdeal.main_v3_scs : Memref Cert.KernelIdeal.sig Kind.scScalar Space.hbm Cert.KernelIdeal.S16x64 EltTy.f32)
local notation "sW" => (Memref.whole Cert.KernelIdeal.cc0_scratch0 : Memref Cert.KernelIdeal.sig Kind.scScalar Space.smem Cert.KernelIdeal.S1x16 EltTy.i32)

variable [FloatOps F]

/-- The table, the index row, the gathered rows: the TensorCore's arrays. -/
abbrev eLoc (d : Dev nD) : Loc nD τ sig := (SparseCore.T d).loc main_arg3
abbrev iLoc (d : Dev nD) : Loc nD τ sig := (SparseCore.T d).loc main_v2
abbrev oLoc (d : Dev nD) : Loc nD τ sig := (SparseCore.T d).loc main_v3
/-- Sequencer `c`'s scalar scratch. -/
abbrev sLoc (d : Dev nD) (c : Fin τ.nSC) : Loc nD τ sig := (S d c).loc cc0_scratch0

/-! ## The result's rows, by core and one by one -/

/-- Row `n` of the result; -/
def rowSet (n : Fin 16) : Finset S16x64.Idx := Finset.univ.filter fun x => (x 0).val = n.val
/-- core `c`'s eight rows. -/
def half (c : ℕ) : Finset S16x64.Idx := Finset.univ.filter fun x => (x 0).val / 8 = c

theorem mem_rowSet {n : Fin 16} {x : S16x64.Idx} : x ∈ rowSet n ↔ (x 0).val = n.val := by simp [rowSet]
theorem mem_half {c : ℕ} {x : S16x64.Idx} : x ∈ half c ↔ (x 0).val / 8 = c := by simp [half]

theorem rowset_eq (i : grid0.Coords) (k : Fin 8) {off : Fin 2 → Nat} (h : ∀ a, off a + S1x64.size a ≤ S16x64.size a)
    (hoff : off = ![(rowOf i k).val, 0]) : (oR off h).view.set = rowSet (rowOf i k) := by
  have e : (oR off h).view.set = (Rect.unit (s := S16x64) off S1x64.size h).set := by
    simp only [oR, Memref.view_squeeze, View.set_reshape]; exact View.set_slice_whole _ _
  rw [e]; subst hoff
  ext x
  rw [Rect.mem_set_unit, mem_rowSet]
  constructor
  · intro hx
    have h0 : (rowOf i k).val ≤ (x 0).val ∧ (x 0).val < (rowOf i k).val + 1 := hx 0
    omega
  · intro hx a
    match a with
    | 0 => exact (show (rowOf i k).val ≤ (x 0).val ∧ (x 0).val < (rowOf i k).val + 1 by omega)
    | 1 => exact (show 0 ≤ (x 1).val ∧ (x 1).val < 0 + 64 from ⟨Nat.zero_le _, by have : (x 1).val < 64 := (x 1).isLt; omega⟩)

theorem half_eq (i : grid0.Coords) : half (i 0).val = Finset.univ.biUnion fun k : Fin 8 => rowSet (rowOf i k) := by
  ext x
  rw [mem_half, Finset.mem_biUnion]
  constructor
  · intro hx; exact ⟨⟨(x 0).val % 8, by omega⟩, Finset.mem_univ _, mem_rowSet.mpr (show (x 0).val = 8 * (i 0).val + (x 0).val % 8 by omega)⟩
  · rintro ⟨k, -, hk⟩
    have := k.isLt
    have hk : (x 0).val = 8 * (i 0).val + k.val := mem_rowSet.mp hk
    omega

theorem rows_disjoint (i : grid0.Coords) (k k' : Fin 8) (h : k ≠ k') : Disjoint (rowSet (rowOf i k)) (rowSet (rowOf i k')) := by
  rw [Finset.disjoint_left]
  intro x hx hx'
  have h1 : (x 0).val = 8 * (i 0).val + k.val := mem_rowSet.mp hx
  have h2 : (x 0).val = 8 * (i 0).val + k'.val := mem_rowSet.mp hx'
  exact h (Fin.ext (by omega))

theorem halves_disjoint {c c' : ℕ} (h : c ≠ c') : Disjoint (half c) (half c') := by
  rw [Finset.disjoint_left]
  intro x hx hx'
  rw [mem_half] at hx hx'
  omega

theorem halves_cover : half 0 ∪ half 1 = Finset.univ := by
  ext x
  have : (x 0).val < 16 := (x 0).isLt
  rw [Finset.mem_union, mem_half, mem_half]
  exact ⟨fun _ => Finset.mem_univ _, fun _ => by omega⟩

theorem bigSep_fin8 (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

/-- A core's eight rows held at one contents, and row by row as its body slices them. -/
theorem half_rows (d : Dev nD) (i : grid0.Coords) (g : Buf (Elt F) ((oW).view.loc (Si d i))) :
    ((oW).view.loc (Si d i) ↦[half (i 0).val]{fullShare} g : sProp 𝕄)
      = iprop(oP d i (k0_off2 i) (k0_off2_inb i) g ∗ oP d i (k0_off5 i) (k0_off5_inb i) g ∗ oP d i (k0_off8 i) (k0_off8_inb i) g ∗ oP d i (k0_off11 i) (k0_off11_inb i) g ∗ oP d i (k0_off14 i) (k0_off14_inb i) g ∗ oP d i (k0_off17 i) (k0_off17_inb i) g ∗ oP d i (k0_off20 i) (k0_off20_inb i) g ∗ oP d i (k0_off23 i) (k0_off23_inb i) g) := by
  have e := pointsTo_biUnion (Ix := HIx 1) (Name := ℕ) (U := UU) (Lvl := ℕ) (ℓ := (oW).view.loc (Si d i)) (q := fullShare) (f := g) Finset.univ
    (fun k : Fin 8 => rowSet (rowOf i k)) (fun k _ k' _ h => rows_disjoint i k k' h)
  rw [half_eq i]
  refine e.trans ?_
  rw [bigSep_fin8]
  rw [← rowset_eq i 0 (k0_off2_inb i) (k0_off2_eq i), ← rowset_eq i 1 (k0_off5_inb i) (k0_off5_eq i),
    ← rowset_eq i 2 (k0_off8_inb i) (k0_off8_eq i), ← rowset_eq i 3 (k0_off11_inb i) (k0_off11_eq i),
    ← rowset_eq i 4 (k0_off14_inb i) (k0_off14_eq i), ← rowset_eq i 5 (k0_off17_inb i) (k0_off17_eq i),
    ← rowset_eq i 6 (k0_off20_inb i) (k0_off20_eq i), ← rowset_eq i 7 (k0_off23_inb i) (k0_off23_eq i)]

/-! ## The payloads -/

/-- Core `c`'s half of a share. -/
def hsh (c : ℕ) : PosShare TreeShare := leaf 1 fullShare ⟨c % 2, Nat.mod_lt _ (by decide)⟩

variable (m : (ℓ : Loc nD τ sig) → Buf (Elt F) ℓ) (fi : (d : Dev nD) → Buf (Elt F) (iLoc d))

/-- Half a share of the table at its launch contents and of the index row at `fi`. -/
abbrev ins (d : Dev nD) (c : ℕ) : sProp 𝕄 := iprop((eLoc d ↦{hsh c} m (eLoc d)) ∗ (iLoc d ↦{hsh c} fi d))

/-- What the gather is to leave in the result, as its buffer's contents. -/
def gatB (d : Dev nD) : Buf (Elt F) (oLoc d) := gat (m (eLoc d)) (fi d)

/-- The call's payloads: out, a core's inputs and its rows at anything; back, its rows gathered. -/
def P : (K (F := F)).Pay (nD := nD) (Val := Elt F) (Name := ℕ) (U := UU) where
  st := fun _ d c => iprop(ins m fi d c.val ∗ ∃ g, oLoc d ↦[half c.val]{fullShare} g)
  dn := fun _ d c => iprop(ins m fi d c.val ∗ oLoc d ↦[half c.val]{fullShare} gatB m fi d)
  go := fun _ _ _ _ => iprop(emp)
  td := fun _ _ _ _ => iprop(emp)
  x := fun _ _ => iprop(emp)

instance P_storable : (P (F := F) m fi).IsStorable where
  st _ d c := by unfold P; infer_instance
  dn _ d c := by unfold P; infer_instance
  go _ _ _ _ := by unfold P; infer_instance
  td _ _ _ _ := by unfold P; infer_instance

/-! ## The sequencer's own storage -/

/-- The two DMA cells the body names. -/
abbrev dcell (d : Dev nD) (c : Fin τ.nSC) (k : Fin 2) : GSem nD τ sig := (S d c, .dma (match k with | 0 => cc0_scratch1.sem | 1 => cc0_scratch2.sem))

theorem dcell_mem (d : Dev nD) (c : Fin τ.nSC) (k : Fin 2) : dcell d c k ∈ ownCells (S d c) :=
  mem_ownCells.mpr ⟨rfl, (show ∀ s : DmaSem sig, (SemLoc.dma s : SemLoc sig).isScoped .scScalar = true by decide) _⟩

theorem ownSems0_S (d : Dev nD) (c : Fin τ.nSC) :
    (ownSems0 (S d c) : sProp 𝕄)
      = iprop((semVal (S d c, SemLoc.dma cc0_scratch1.sem) 0 ∗ semVal (S d c, SemLoc.dma cc0_scratch2.sem) 0)
          ∗ bigSep ((ownCells (S d c)) \ Finset.univ.image (dcell d c)) fun g => semVal g 0) := by
  unfold SparseCore.Cfg.ownSems0
  rw [SparseCore.bigSep_sdiff_split' (t := Finset.univ.image (dcell d c)) (Finset.image_subset_iff.mpr fun k _ => dcell_mem d c k),
    SparseCore.bigSep_image_of_injOn (fun a _ b _ h => by
      have h2 : (dcell d c a).2 = (dcell d c b).2 := congrArg (fun g : GSem nD τ sig => g.2) h
      revert h2; exact (show ∀ a b : Fin 2, (dcell d c a).2 = (dcell d c b).2 → a = b by
        intro a b; match a, b with
          | 0, 0 => intro _; rfl
          | 1, 1 => intro _; rfl
          | 0, 1 => intro h; exact absurd h (show ¬ (SemLoc.dma cc0_scratch1.sem : SemLoc sig) = SemLoc.dma cc0_scratch2.sem by decide)
          | 1, 0 => intro h; exact absurd h (show ¬ (SemLoc.dma cc0_scratch2.sem : SemLoc sig) = SemLoc.dma cc0_scratch1.sem by decide)) a b),
    bigSep_fin_two]
  rfl

theorem ownBufs_S (d : Dev nD) (c : Fin τ.nSC) :
    (ownBufs (S d c) : sProp 𝕄)
      = iprop((∃ f, sLoc d c ↦{fullShare} f)
          ∗ bigSep ((ownRefs (τ := τ) (.scScalar c)).erase ((Proc.scScalar c).devRef cc0_scratch0)) fun b => iprop(∃ f, ((d, b) : Loc nD τ sig) ↦{fullShare} f)) := by
  unfold SparseCore.Cfg.ownBufs
  exact SparseCore.bigSep_erase' ((mem_ownRefs (p := Proc.scScalar c) (b := (Proc.scScalar c).devRef cc0_scratch0)).mpr rfl)

/-! ## The body, in the obligation's shape -/

/-- Core `c`'s half of the result is its eight rows as its body slices them. -/
theorem half_core (d : Dev nD) (c : Fin (grid0.bound 0)) (g : Buf (Elt F) (oLoc d)) :
    (oLoc d ↦[half c.val]{fullShare} g : sProp 𝕄) = iprop(oP d (coordsS c) (k0_off2 (coordsS c)) (k0_off2_inb (coordsS c)) g ∗ oP d (coordsS c) (k0_off5 (coordsS c)) (k0_off5_inb (coordsS c)) g ∗ oP d (coordsS c) (k0_off8 (coordsS c)) (k0_off8_inb (coordsS c)) g ∗ oP d (coordsS c) (k0_off11 (coordsS c)) (k0_off11_inb (coordsS c)) g ∗ oP d (coordsS c) (k0_off14 (coordsS c)) (k0_off14_inb (coordsS c)) g ∗ oP d (coordsS c) (k0_off17 (coordsS c)) (k0_off17_inb (coordsS c)) g ∗ oP d (coordsS c) (k0_off20 (coordsS c)) (k0_off20_inb (coordsS c)) g ∗ oP d (coordsS c) (k0_off23 (coordsS c)) (k0_off23_inb (coordsS c)) g) :=
  half_rows (F := F) d (coordsS c) g

theorem body_core (hidx : ∀ d, ∀ x : S1x16.Idx, (fi d x).toNat < 100000) (d : Dev nD) (c : Fin (grid0.bound 0))
    (O : CellTallies nD τ sig (HIx 1)) (W : Waits sig (HIx 1)) (hO : ∀ g, O g none = 0) :
    iprop(levAts (K (F := F)).L (K (F := F)).lev ∗ emp ∗ (ins m fi d c.val ∗ ∃ g, oLoc d ↦[half c.val]{fullShare} g)
        ∗ scopedBufs (Si d (coordsS c)) ∗ scopedSems0 (Si d (coordsS c)) ∗ owes (Si d (coordsS c)) O W)
      ⊢ wp frame (wpE (defs₀ (F := F)) 𝒱₀ (Si d (coordsS c)) none) Set.univ
          (cc0_gather_kernel (coordsS c) eW (Memref.isWhole_whole _) iW (Memref.isWhole_whole _) oW (Memref.isWhole_whole _)
            sW (Memref.isWhole_whole _) cc0_scratch1 cc0_scratch2)
          fun _ => iprop((ins m fi d c.val ∗ oLoc d ↦[half c.val]{fullShare} gatB m fi d)
            ∗ scopedBufs (Si d (coordsS c)) ∗ scopedSems0 (Si d (coordsS c))
            ∗ ∃ W', ⌜∀ p ∈ W', p ∈ W ∨ p.2 = none ∨ p.2 = some (0 : Fin 1)⌝ ∗ owes (Si d (coordsS c)) O W') := by
  rw [(K (F := F)).scopedBufs_S facts d _, SparseCore.Cfg.scopedSems0_S (Val := Elt F) d _, ownSems0_S, ownBufs_S]
  iintro ⟨#Hlv, -, ⟨⟨He, Hi⟩, %g, Ho⟩, ⟨⟨⟨%fs, Hs⟩, Hbufs⟩, Htiles⟩, ⟨⟨⟨Hc1, Hc2⟩, Hsems⟩, HtileSems⟩, HO⟩
  ihave Hmw := ((K (F := F)).mayWaits_none (thr := Si d (coordsS c)) hO) $$ Hlv
  ihave Ho' := (Entails.of_eq (half_core d c g)) $$ Ho
  icases Ho' with ⟨Ho0, Ho1, Ho2, Ho3, Ho4, Ho5, Ho6, Ho7⟩
  ihave He' := (Entails.of_eq ((pointsTo_leaves Finset.univ (m (eLoc d)) 3 (hsh c.val)).trans (bigSep_fin8 (F := F) _))) $$ He
  icases He' with ⟨He0, He1, He2, He3, He4, He5, He6, He7⟩
  iapply (wp_wand_r Idealize.ShloMosaic.frame (wpE (defs₀ (F := F)) 𝒱₀ (Si d (coordsS c)) none) Set.univ)
  isplitl [He0 He1 He2 He3 He4 He5 He6 He7 Hi Hs Ho0 Ho1 Ho2 Ho3 Ho4 Ho5 Ho6 Ho7 Hc1 Hc2 HO]
  · iapply (gather_run d (coordsS c) O W (fun r => leaf 3 (hsh c.val) r) (hsh c.val) (m (eLoc d)) (fi d) fs (fun _ => g) (hidx d) trivial)
    isplitr; · iexact Hmw
    isplitl [He0]; · iexact He0
    isplitl [He1]; · iexact He1
    isplitl [He2]; · iexact He2
    isplitl [He3]; · iexact He3
    isplitl [He4]; · iexact He4
    isplitl [He5]; · iexact He5
    isplitl [He6]; · iexact He6
    isplitl [He7]; · iexact He7
    isplitl [Hi]; · iexact Hi
    isplitl [Hs]; · iexact Hs
    isplitl [Ho0]; · iexact Ho0
    isplitl [Ho1]; · iexact Ho1
    isplitl [Ho2]; · iexact Ho2
    isplitl [Ho3]; · iexact Ho3
    isplitl [Ho4]; · iexact Ho4
    isplitl [Ho5]; · iexact Ho5
    isplitl [Ho6]; · iexact Ho6
    isplitl [Ho7]; · iexact Ho7
    isplitl [Hc1]; · iexact Hc1
    isplitl [Hc2]; · iexact Hc2
    iexact HO
  iintro %_ ⟨⟨%fs', Hs⟩, He0, He1, He2, He3, He4, He5, He6, He7, Hi, Ho0, Ho1, Ho2, Ho3, Ho4, Ho5, Ho6, Ho7, Hc1, Hc2, %W', HO⟩
  isplitl [He0 He1 He2 He3 He4 He5 He6 He7 Hi Ho0 Ho1 Ho2 Ho3 Ho4 Ho5 Ho6 Ho7]
  · isplitl [He0 He1 He2 He3 He4 He5 He6 He7 Hi]
    · isplitl [He0 He1 He2 He3 He4 He5 He6 He7]
      · iapply (Entails.of_eq ((pointsTo_leaves Finset.univ (m (eLoc d)) 3 (hsh c.val)).trans (bigSep_fin8 (F := F) _)).symm)
        isplitl [He0]; · iexact He0
        isplitl [He1]; · iexact He1
        isplitl [He2]; · iexact He2
        isplitl [He3]; · iexact He3
        isplitl [He4]; · iexact He4
        isplitl [He5]; · iexact He5
        isplitl [He6]; · iexact He6
        iexact He7
      iexact Hi
    iapply (Entails.of_eq (half_core d c (gatB m fi d)).symm)
    isplitl [Ho0]; · iexact Ho0
    isplitl [Ho1]; · iexact Ho1
    isplitl [Ho2]; · iexact Ho2
    isplitl [Ho3]; · iexact Ho3
    isplitl [Ho4]; · iexact Ho4
    isplitl [Ho5]; · iexact Ho5
    isplitl [Ho6]; · iexact Ho6
    iexact Ho7
  isplitl [Hs Hbufs Htiles]
  · isplitl [Hs Hbufs]
    · isplitl [Hs]; · iexists _; iexact Hs
      iexact Hbufs
    iexact Htiles
  isplitl [Hc1 Hc2 Hsems HtileSems]
  · isplitl [Hc1 Hc2 Hsems]
    · isplitl [Hc1 Hc2]
      · isplitl [Hc1]; · iexact Hc1
        iexact Hc2
      iexact Hsems
    iexact HtileSems
  iexists W'; isplitr
  · ipureintro; intro p _
    rcases p.2 with _ | q
    · exact .inr (.inl rfl)
    · exact .inr (.inr (congrArg some (Subsingleton.elim q 0)))
  · iexact HO

theorem defs₀_scalar (c : Fin τ.nSC) :
    defs₀ (F := F) (.scScalar c) 0 ()
      = SparseCore.onCore hcore0 (fun c => cc0_gather_kernel (coordsS c) eW (Memref.isWhole_whole _) iW (Memref.isWhole_whole _) oW (Memref.isWhole_whole _)
          sW (Memref.isWhole_whole _) cc0_scratch1 cc0_scratch2) ⟨⟩ c := rfl

/-- What the launch theorem asks of the call: each of its two sequencers runs `body_core`. -/
theorem scalarObl (hidx : ∀ d, ∀ x : S1x16.Idx, (fi d x).toNat < 100000) : (K (F := F)).ScalarObl (D (F := F)) 𝒱 (P m fi) v₀ 0 := by
  intro d c O W hO _ _
  simp only [show (P m fi).ox = fun _ _ => 0 from rfl, add_zero]
  change _ ⊢ wp _ _ _ (Pipeline.liftProg (defs₀ (F := F) (.scScalar ((K (F := F)).core 0 c)) 0 ())) _
  refine BI.Entails.trans ?_ (Pipeline.wp_liftProg (D (F := F)) (Pipeline.defs_kernel pcfgs defs₀) 𝒱₀ _ Set.univ none _ _)
  have hc : ((K (F := F)).core 0 c).val < grid0.bound 0 := c.isLt
  rw [defs₀_scalar]; simp only [SparseCore.onCore, hc, ↓reduceDIte]
  exact body_core m fi hidx d ⟨c.val, c.isLt⟩ O W hO

end Cert.Proof.Skip

end
-- ==== Proof.LossBody.lean ====
module

public import proofs.«01_k».proof.Proof.Setup
public import proofs.«01_k».proof.Proof.Gen.KernelIdeal.Skeleton
public import Idealize.ShloMosaic.Lib.VecWindow
public import Idealize.ShloMosaic.Lib.Pointwise.Index

@[expose] public section

noncomputable section

namespace Cert.Proof.Skip

open Cert.KernelIdeal Cert.KernelIdeal.Gen

open Idealize.ShloMosaic
open Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

/-- Memref `M`'s buffer on core `c`: its contents type, and it held whole at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

/-- Whether point `i` is the one numbered `k`, as the body asks it. -/
abbrev isPt (i : grid1.Coords) (k : BitVec 32) : Prop :=
  Scalar.cmpi .ne (Scalar.extui (Scalar.cmpi .eq (BitVec.ofNat 32 (i 0).val) k) : BitVec 32) 0#32 = 1#1

/-- What one block of rows adds up to, from what the three staged blocks read. -/
abbrev part (c : Dev nD) (M0 : Memref sig .tc .vmem S2048x64 .f32) (M1 : Memref sig .tc .vmem S2048x64 .f32) (M2 : Memref sig .tc .vmem S16x64 .f32)
    (f0 : Bf (F := F) c M0) (f1 : Bf (F := F) c M1) (f2 : Bf (F := F) c M2) : F .f32 :=
  k1_pay3 (M0.view.read (Elt F) f0) (M1.view.read (Elt F) f1) (M2.view.read (Elt F) f2)

/-- The word a load of the total reads is the one the memref's own view reads. -/
theorem first_word (c : Dev nD) (M3 : Memref sig .tc .smem S1x1 .f32) (f3 : Bf (F := F) c M3) (h : 0 < S1x1.numel) :
    M3.view.readAt (Elt F) (Rect.unit (s := S1x1) ![0, 0] S1x1.size inb_S1x1_S1x1_0_0).toLoadRect f3 (Shape.Idx.first (s := S1x1) h)
      = M3.view.read (Elt F) f3 (ix2 0 0) := by
  rw [View.readAt_full]
  refine congrArg _ (funext fun a => ?_)
  have : ∀ a, S1x1.size a = 1 := by decide
  refine Fin.ext ?_
  exact (Nat.lt_one_iff.mp (lt_of_lt_of_eq (Shape.Idx.first (s := S1x1) h a).isLt (this a))).trans
    (Nat.lt_one_iff.mp (lt_of_lt_of_eq ((ix2 0 0 : S1x1.Idx) a).isLt (this a))).symm

/-- The body at the first point: the total is zeroed, then the block's sum is taken off it. -/
theorem loss_run_first (c : Dev nD) (i : grid1.Coords) (h0 : isPt i 0#32) (h7 : ¬ isPt i 7#32)
    (M0 : Memref sig .tc .vmem S2048x64 .f32) (w0 : M0.IsWhole) (M1 : Memref sig .tc .vmem S2048x64 .f32) (w1 : M1.IsWhole)
    (M2 : Memref sig .tc .vmem S16x64 .f32) (w2 : M2.IsWhole) (M3 : Memref sig .tc .smem S1x1 .f32) (w3 : M3.IsWhole)
    (f0 : Bf (F := F) c M0) (f1 : Bf (F := F) c M1) (f2 : Bf (F := F) c M2) (f3 : Bf (F := F) c M3) (E : Set ℕ) (Q : PUnit → sProp 𝕄) :
    iprop(pt c M0 f0 ∗ pt c M1 f1 ∗ pt c M2 f2 ∗ pt c M3 f3 ∗ (iprop(pt c M0 f0 ∗ pt c M1 f1 ∗ pt c M2 f2
        ∗ ∃ f, ⌜M3.view.read (Elt F) f = fun _ => k1_pay1 (part c M0 M1 M2 f0 f1 f2) (Scalar.ofBits .f32 0x00000000#32)⌝ ∗ pt c M3 f) -∗ Q ⟨⟩))
      ⊢ wp frame (wpE (defs₀ (F := F)) 𝒱₀ c none) E (cc1__loss_body i M0 w0 M1 w1 M2 w2 M3 w3) Q := by
  rw [cc1__loss_body_eq_skeleton]; unfold cc1__loss_body_skel; rw [k1_part1_eq_skeleton]; unfold k1_part1_skel
  iintro ⟨H0, H1, H2, H3, Hk⟩
  sl_exec!
  sl_step
  iapply Hk
  isplitl [H0]; · iexact H0
  isplitl [H1]; · iexact H1
  isplitl [H2]; · iexact H2
  iexists _; isplitr; swap; (· iexact H3); ipureintro
  refine (View.read_writes_full M3.view _ _ _ _).trans (funext fun _ => ?_)
  rw [View.readAt_full, View.readAt_full, View.readAt_full]
  rfl

/-- The body at a point in the middle: the block's sum is taken off the total. -/
theorem loss_run_mid (c : Dev nD) (i : grid1.Coords) (h0 : ¬ isPt i 0#32) (h7 : ¬ isPt i 7#32)
    (M0 : Memref sig .tc .vmem S2048x64 .f32) (w0 : M0.IsWhole) (M1 : Memref sig .tc .vmem S2048x64 .f32) (w1 : M1.IsWhole)
    (M2 : Memref sig .tc .vmem S16x64 .f32) (w2 : M2.IsWhole) (M3 : Memref sig .tc .smem S1x1 .f32) (w3 : M3.IsWhole)
    (f0 : Bf (F := F) c M0) (f1 : Bf (F := F) c M1) (f2 : Bf (F := F) c M2) (f3 : Bf (F := F) c M3) (E : Set ℕ) (Q : PUnit → sProp 𝕄) :
    iprop(pt c M0 f0 ∗ pt c M1 f1 ∗ pt c M2 f2 ∗ pt c M3 f3 ∗ (iprop(pt c M0 f0 ∗ pt c M1 f1 ∗ pt c M2 f2
        ∗ ∃ f, ⌜M3.view.read (Elt F) f = fun _ => k1_pay1 (part c M0 M1 M2 f0 f1 f2) (M3.view.read (Elt F) f3 (ix2 0 0))⌝ ∗ pt c M3 f) -∗ Q ⟨⟩))
      ⊢ wp frame (wpE (defs₀ (F := F)) 𝒱₀ c none) E (cc1__loss_body i M0 w0 M1 w1 M2 w2 M3 w3) Q := by
  rw [cc1__loss_body_eq_skeleton]; unfold cc1__loss_body_skel; rw [k1_part1_eq_skeleton]; unfold k1_part1_skel
  iintro ⟨H0, H1, H2, H3, Hk⟩
  sl_exec!
  sl_step
  iapply Hk
  isplitl [H0]; · iexact H0
  isplitl [H1]; · iexact H1
  isplitl [H2]; · iexact H2
  iexists _; isplitr; swap; (· iexact H3); ipureintro
  refine (View.read_writes_full M3.view _ _ _ _).trans (funext fun _ => ?_)
  rw [View.readAt_full, View.readAt_full, View.readAt_full]
  refine congrArg (k1_pay1 _) ?_
  exact first_word c M3 f3 _

/-- The body at the last point: the block's sum is taken off the total, which is then scaled. -/
theorem loss_run_last (c : Dev nD) (i : grid1.Coords) (h0 : ¬ isPt i 0#32) (h7 : isPt i 7#32)
    (M0 : Memref sig .tc .vmem S2048x64 .f32) (w0 : M0.IsWhole) (M1 : Memref sig .tc .vmem S2048x64 .f32) (w1 : M1.IsWhole)
    (M2 : Memref sig .tc .vmem S16x64 .f32) (w2 : M2.IsWhole) (M3 : Memref sig .tc .smem S1x1 .f32) (w3 : M3.IsWhole)
    (f0 : Bf (F := F) c M0) (f1 : Bf (F := F) c M1) (f2 : Bf (F := F) c M2) (f3 : Bf (F := F) c M3) (E : Set ℕ) (Q : PUnit → sProp 𝕄) :
    iprop(pt c M0 f0 ∗ pt c M1 f1 ∗ pt c M2 f2 ∗ pt c M3 f3 ∗ (iprop(pt c M0 f0 ∗ pt c M1 f1 ∗ pt c M2 f2
        ∗ ∃ f, ⌜M3.view.read (Elt F) f = fun _ => k1_pay2 (k1_pay1 (part c M0 M1 M2 f0 f1 f2) (M3.view.read (Elt F) f3 (ix2 0 0)))⌝ ∗ pt c M3 f) -∗ Q ⟨⟩))
      ⊢ wp frame (wpE (defs₀ (F := F)) 𝒱₀ c none) E (cc1__loss_body i M0 w0 M1 w1 M2 w2 M3 w3) Q := by
  rw [cc1__loss_body_eq_skeleton]; unfold cc1__loss_body_skel; rw [k1_part1_eq_skeleton]; unfold k1_part1_skel
  iintro ⟨H0, H1, H2, H3, Hk⟩
  sl_exec!
  sl_step
  iapply Hk
  isplitl [H0]; · iexact H0
  isplitl [H1]; · iexact H1
  isplitl [H2]; · iexact H2
  iexists _; isplitr; swap; (· iexact H3); ipureintro
  refine (View.read_writes_full M3.view _ _ _ _).trans (funext fun _ => ?_)
  refine congrArg k1_pay2 ?_
  unfold loss_run_last.sl.r_1
  rw [View.readAt_full, View.readAt_full, View.readAt_full]
  exact congrArg (k1_pay1 _) (first_word c M3 f3 _)

end Cert.Proof.Skip

end
-- ==== Proof.Loss.lean ====
/-
  The TensorCore call as a region of the run: what each of its eight points finds and leaves (`after`), the body's
  obligation at every point (LossBody.lean's three cases), and the region's record over the thread's buffers.
  The two batch windows and the sample window are read and left as fetched; the one-word result accumulates.
-/
module

public import proofs.«01_k».proof.Proof.LossBody
public import Idealize.ShloMosaic.Lib.Pipeline.Value

@[expose] public section

noncomputable section

namespace Cert.Proof.Skip

open Cert.KernelIdeal Cert.KernelIdeal.Gen

open Idealize.ShloMosaic
open Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

/-- What the thread's buffers hold when the region is entered, one valuation per device. -/
abbrev Val0 : Type := Dev nD → Valuation τ sig (Elt F)

variable (W : Val0 (F := F))

/-- The input windows' blocks at point `t`, of the entry contents. -/
abbrev stg0 (c : Dev nD) (t : Fin cfg1.N) : (cfg1.win 0).block.Idx → Elt F (cfg1.win 0).elt :=
  ((cfg1.win 0).blk t).view.read (Elt F) (W c (Proc.devRef .tc (Pipeline.arrRef spec1 0)))
abbrev stg1 (c : Dev nD) (t : Fin cfg1.N) : (cfg1.win 1).block.Idx → Elt F (cfg1.win 1).elt :=
  ((cfg1.win 1).blk t).view.read (Elt F) (W c (Proc.devRef .tc (Pipeline.arrRef spec1 1)))
abbrev stg2 (c : Dev nD) (t : Fin cfg1.N) : (cfg1.win 2).block.Idx → Elt F (cfg1.win 2).elt :=
  ((cfg1.win 2).blk t).view.read (Elt F) (W c (Proc.devRef .tc (Pipeline.arrRef spec1 2)))

/-- What point `t`'s block of rows adds up to. -/
def partAt (c : Dev nD) (t : Fin cfg1.N) : F .f32 := k1_pay3 (stg0 W c t) (stg1 W c t) (stg2 W c t)

/-- The running total after `n` points: each takes its block's sum off it, the last one scales it. -/
def tot (c : Dev nD) : ℕ → F .f32
  | 0 => Scalar.ofBits .f32 0x00000000#32
  | n + 1 => if h : n < cfg1.N then
      (if n = 7 then k1_pay2 (k1_pay1 (partAt W c ⟨n, h⟩) (tot c n)) else k1_pay1 (partAt W c ⟨n, h⟩) (tot c n))
    else tot c n

/-- The proof data of the region's one entry. -/
def dat (c : Dev nD) : Dat τ (Elt F) (HIx 1) ℕ UU ℕ cfg1 c where
  A w := W c (Proc.devRef .tc (Pipeline.arrRef spec1 w))
  after w t := match w with
    | ⟨0, _⟩ => stg0 W c t
    | ⟨1, _⟩ => stg1 W c t
    | ⟨2, _⟩ => stg2 W c t
    | ⟨3, _⟩ => fun _ => tot W c (t.val + 1)
  Φ _ := Pipeline.scopedRest (Ix := HIx 1) (Name := ℕ) (U := UU) (Lvl := ℕ) (Val := Elt F) spec1 c
  q _ := fullShare
  owed _ := 0

theorem live1 (w : Fin cfg1.W) (i : cfg1.grid.Coords) : cfg1.idle w i = false := rfl

/-- The three input windows hold their blocks at every point. -/
theorem before0 (c : Dev nD) (t : Fin cfg1.N) (d) : (dat W c).before 0 t d = stg0 W c t :=
  (dat W c).before_in_eq_fetched 0 rfl (live1 0) (fun _ _ _ => rfl) (fun _ => rfl) t d
theorem before1 (c : Dev nD) (t : Fin cfg1.N) (d) : (dat W c).before 1 t d = stg1 W c t :=
  (dat W c).before_in_eq_fetched 1 rfl (live1 1) (fun _ _ _ => rfl) (fun _ => rfl) t d
theorem before2 (c : Dev nD) (t : Fin cfg1.N) (d) : (dat W c).before 2 t d = stg2 W c t :=
  (dat W c).before_in_eq_fetched 2 rfl (live1 2) (fun _ _ _ => rfl) (fun _ => rfl) t d

/-- After the first point the result's window holds the running total. -/
theorem before3 (c : Dev nD) (t : Fin cfg1.N) (ht : t.val ≠ 0) (d) : (dat W c).before 3 t d = fun _ => tot W c t.val := by
  have ht8 : t.val < 8 := lt_of_lt_of_eq t.isLt N_1
  rw [(dat W c).before_out_kept 3 rfl t ht (by
    rw [← Bool.not_eq_true]
    intro h
    have := (flush1_3 _).mp h
    dsimp only at this
    omega) (live1 3) (fun _ _ => rfl)]
  show (fun _ => tot W c (t.val - 1 + 1)) = _
  rw [Nat.sub_add_cancel (Nat.one_le_iff_ne_zero.mpr ht)]

/-- Which points the body's two questions single out. -/
theorem isPt_first : ∀ t : Fin grid1.N, isPt (grid1.coords t) 0#32 ↔ t.val = 0 := by decide
theorem isPt_last : ∀ t : Fin grid1.N, isPt (grid1.coords t) 7#32 ↔ t.val = 7 := by decide

theorem tot_first (c : Dev nD) (t : Fin cfg1.N) (h : t.val = 0) : tot W c (t.val + 1) = k1_pay1 (partAt W c t) (Scalar.ofBits .f32 0x00000000#32) := by
  obtain ⟨t, ht⟩ := t
  dsimp only at h; subst h
  rw [tot, dif_pos ht, if_neg (show ¬ (0 : ℕ) = 7 by decide), tot]
theorem tot_mid (c : Dev nD) (t : Fin cfg1.N) (h : t.val ≠ 7) : tot W c (t.val + 1) = k1_pay1 (partAt W c t) (tot W c t.val) := by
  rw [tot, dif_pos t.isLt, if_neg h]
theorem tot_last (c : Dev nD) (t : Fin cfg1.N) (h : t.val = 7) : tot W c (t.val + 1) = k1_pay2 (k1_pay1 (partAt W c t) (tot W c t.val)) := by
  rw [tot, dif_pos t.isLt, if_pos h]

/-- The body at any point, over the points' own staging buffers: the result's word goes from what it holds (the running
    total, but for the first point) to the next running total. -/
theorem loss_run (c : Dev nD) (t : Fin cfg1.N)
    (f0 : Bf (F := F) c (st1_0 t)) (f1 : Bf (F := F) c (st1_1 t)) (f2 : Bf (F := F) c (st1_2 t)) (f3 : Bf (F := F) c (st1_3 t))
    (hf0 : (st1_0 t).view.read (Elt F) f0 = stg0 W c t) (hf1 : (st1_1 t).view.read (Elt F) f1 = stg1 W c t) (hf2 : (st1_2 t).view.read (Elt F) f2 = stg2 W c t)
    (hf3 : t.val ≠ 0 → (st1_3 t).view.read (Elt F) f3 = fun _ => tot W c t.val) (E : Set ℕ) (Q : PUnit → sProp 𝕄) :
    iprop(pt c (st1_0 t) f0 ∗ pt c (st1_1 t) f1 ∗ pt c (st1_2 t) f2 ∗ pt c (st1_3 t) f3
        ∗ (iprop(pt c (st1_0 t) f0 ∗ pt c (st1_1 t) f1 ∗ pt c (st1_2 t) f2
          ∗ ∃ f, ⌜(st1_3 t).view.read (Elt F) f = fun _ => tot W c (t.val + 1)⌝ ∗ pt c (st1_3 t) f) -∗ Q ⟨⟩))
      ⊢ wp frame (wpE (defs₀ (F := F)) 𝒱₀ c none) E (bodyAt1 t) Q := by
  have hpart : part c (st1_0 t) (st1_1 t) (st1_2 t) f0 f1 f2 = partAt W c t := by
    unfold partAt; exact congr (congr (congrArg k1_pay3 hf0) hf1) hf2
  by_cases h0 : t.val = 0
  · rw [tot_first W c t h0, ← hpart]
    exact loss_run_first c (grid1.coords t) ((isPt_first t).mpr h0) (fun h => by have := (isPt_last t).mp h; omega)
      (st1_0 t) _ (st1_1 t) _ (st1_2 t) _ (st1_3 t) _ f0 f1 f2 f3 E Q
  have h3 := congrFun (hf3 h0) (ix2 0 0)
  by_cases h7 : t.val = 7
  · rw [tot_last W c t h7, ← hpart, ← h3]
    exact loss_run_last c (grid1.coords t) (fun h => h0 ((isPt_first t).mp h)) ((isPt_last t).mpr h7)
      (st1_0 t) _ (st1_1 t) _ (st1_2 t) _ (st1_3 t) _ f0 f1 f2 f3 E Q
  · rw [tot_mid W c t h7, ← hpart, ← h3]
    exact loss_run_mid c (grid1.coords t) (fun h => h0 ((isPt_first t).mp h)) (fun h => h7 ((isPt_last t).mp h))
      (st1_0 t) _ (st1_1 t) _ (st1_2 t) _ (st1_3 t) _ f0 f1 f2 f3 E Q

/-- A whole memref owned at `X` is its buffer held at contents that read `X`. -/
theorem owns_pt (c : Dev nD) {sp : Space} {S : Shape} {e : EltTy} (M : Memref sig .tc sp S e) (h : M.IsWhole) (X : S.Idx → Elt F e) :
    (owns (c : Thread nD τ) M fullShare X : sProp 𝕄) = iprop(∃ f, ⌜M.view.read (Elt F) f = X⌝ ∗ pt c M f) := by
  unfold owns; rw [Memref.IsWhole.set_eq_univ h]

/-- The library's obligation of the body, at every point. -/
theorem body_obligation (c : Dev nD) : BodyObligation (dat W c) (defs₀ (F := F)) 𝒱₀ none Set.univ := fun t => by
  rw [bigSep_W1, bigSep_W1]
  rw [show (dat W c).Φ t.castSucc = (dat W c).Φ t.succ from rfl,
    show (dat W c).owesAt none t.succ = (dat W c).owesAt none t.castSucc from rfl]
  simp only [owns_pt c (st1_0 t) (stage_whole1 0 _), owns_pt c (st1_1 t) (stage_whole1 1 _), owns_pt c (st1_2 t) (stage_whole1 2 _),
    owns_pt c (st1_3 t) (stage_whole1 3 _)]
  iintro ⟨HΦ, Howes, ⟨%d0, %f0, %hf0, H0⟩, ⟨%d1, %f1, %hf1, H1⟩, ⟨%d2, %f2, %hf2, H2⟩, ⟨%d3, %f3, %hf3, H3⟩⟩
  rw [before0] at hf0
  rw [before1] at hf1
  rw [before2] at hf2
  iapply (loss_run W c t f0 f1 f2 f3 hf0 hf1 hf2 (fun h => hf3.trans (before3 W c t h d3)) Set.univ _)
  isplitl [H0]; · iexact H0
  isplitl [H1]; · iexact H1
  isplitl [H2]; · iexact H2
  isplitl [H3]; · iexact H3
  iintro ⟨H0, H1, H2, ⟨%f, %hf, H3⟩⟩
  isplitl [HΦ]; · iexact HΦ
  isplitl [Howes]; · iexact Howes
  isplitl [H0]; · iexists f0; isplitr; swap; (· iexact H0); ipureintro; exact hf0
  isplitl [H1]; · iexists f1; isplitr; swap; (· iexact H1); ipureintro; exact hf1
  isplitl [H2]; · iexists f2; isplitr; swap; (· iexact H2); ipureintro; exact hf2
  iexists f; isplitr; swap; (· iexact H3); ipureintro; exact hf

/-! ## The region's record -/

/-- The pipeline prefetches no table. -/
abbrev adm : (p : Fin 1) → (pcfgs (F := F) p).Adm := fun _ => Pipeline.Cfg.toPCfg_adm _

/-- The proof data of the program's one pipeline. -/
def pdats : (p : Fin 1) → (c : Dev nD) → Dat τ (Elt F) (HIx 1) ℕ UU ℕ (Pipeline.pin (pcfgs (F := F)) adm p) c
  | ⟨0, _⟩ => fun c => dat W c

/-- The thread's buffers: every unscoped one of the TensorCore. -/
abbrev ucRefs : Finset (DevRef τ sig) := Pipeline.ucRefs τ sig

theorem arrs_sub : Pipeline.arrRefs (sig := sig) (τ := τ) (pcfgs (F := F) 0).spec ⊆ ucRefs := by
  show Pipeline.arrRefs (sig := sig) (τ := τ) spec1 ⊆ ucRefs
  decide

/-- No scoped buffer is left for the region to carry beside its staging: what enters is what leaves. -/
theorem enter (c : Dev nD) : iprop(Pipeline.scopedRest (Pipeline.pin (pcfgs (F := F)) adm 0).spec c ∗ (BI.emp : sProp 𝕄)) ⊢ (pdats W 0 c).Φ 0 := by
  show iprop(Pipeline.scopedRest spec1 c ∗ (BI.emp : sProp 𝕄)) ⊢ Pipeline.scopedRest spec1 c
  iintro ⟨H, -⟩; iexact H
theorem leave (c : Dev nD) : (pdats W 0 c).Φ (Fin.last (Pipeline.pin (pcfgs (F := F)) adm 0).N)
    ⊢ iprop(Pipeline.scopedRest (Pipeline.pin (pcfgs (F := F)) adm 0).spec c ∗ (BI.emp : sProp 𝕄)) := by
  show Pipeline.scopedRest spec1 c ⊢ iprop(Pipeline.scopedRest spec1 c ∗ (BI.emp : sProp 𝕄))
  iintro H
  isplitl [H]; · iexact H
  iempintro

/-- Every array enters at the entry contents. -/
theorem at_entry (c : Dev nD) (w : Fin cfg1.W) : (dat W c).arrAt w 0 = W c (Proc.devRef .tc (Pipeline.arrRef spec1 w)) := by
  rw [Pipeline.Dat.arrAt]; rfl

/-- What the region leaves in the thread's buffers. -/
abbrev Wout (c : Dev nD) : Valuation τ sig (Elt F) := Pipeline.afterRegion (pdats W 0 c) (W c)

/-- A one-word buffer has one index. -/
theorem one_idx (i j : S1x1.Idx) : i = j := by
  have : ∀ a, S1x1.size a = 1 := by decide
  exact funext fun a => Fin.ext ((Nat.lt_one_iff.mp (lt_of_lt_of_eq (i a).isLt (this a))).trans (Nat.lt_one_iff.mp (lt_of_lt_of_eq (j a).isLt (this a))).symm)

/-- The result's word after the region is the total after all eight points. -/
theorem Wout_result (c : Dev nD) : Wout W c (Proc.devRef .tc main_v4) = fun _ => tot W c 8 := by
  refine (Pipeline.afterRegion_arr (dat W c) (W c) launch1.win.arr_inj 3).trans ?_
  refine (dat W c).arrAt_eq_of_cover 3 (fun _ => tot W c 8) (fun t ht => ?_) fun i => ⟨t1_7, (flush1_3 t1_7).mpr rfl, ?_⟩
  · have h7 := (flush1_3 t).mp ht
    have ht8 : t.val < 8 := lt_of_lt_of_eq t.isLt N_1
    have e : t.val + 1 = 8 := by omega
    show (fun _ => tot W c (t.val + 1)) = _
    rw [e]; rfl
  · have hi : i = ((cfg1.win 3).blk t1_7).view.emb (Shape.Idx.first (s := S1x1) (by decide) : S1x1.Idx) := one_idx _ _
    rw [hi]; exact View.emb_mem_set _ _

/-- Everything else is as it was. -/
theorem Wout_keeps (c : Dev nD) (r : Ref sig .tc) (h : r ≠ main_v4) : Wout W c (Proc.devRef .tc r) = W c (Proc.devRef .tc r) := by
  refine Pipeline.afterRegion_keeps (dat W c) (W c) launch1.win.arr_inj (fun _ => rfl) r fun w hw => ?_
  fin_cases w
  · rfl
  · rfl
  · rfl
  · exact absurd hw.symm h

/-- The staging waits sit at level 0, below which nothing is owed. -/
theorem cut : Pipeline.LevelCut (nD := nD) (pcfgs (F := F)) adm none (K (F := F)).L (K (F := F)).lev 0 (fun _ => 0) (fun _ => 0) where
  hι _ _ _ := Finset.mem_univ _
  hιb _ _ _ := le_of_eq rfl
  hD _ _ _ h := absurd h (lt_irrefl _)

/-- No table is prefetched, nothing is owed, every wait may be recorded, and every share is whole. -/
theorem no_prefetch : (pcfgs (F := F) 0).pre.K = 0 := rfl
theorem owes_nothing (c : Dev nD) (t : Fin ((Pipeline.pin (pcfgs (F := F)) adm 0).N + 1)) : (pdats W 0 c).owed t = (fun _ : Dev nD => (0 : CellTallies nD τ sig (HIx 1))) c := rfl
theorem records_all (c : Dev nD) : (pdats W 0 c).recorded 0 = Set.univ := rfl
theorem shares_whole (c : Dev nD) (w : Fin (Pipeline.pin (pcfgs (F := F)) adm 0).W) : (pdats W 0 c).share w = fullShare := (pdats W 0 c).share_full (fun _ => rfl) w
theorem body_loose (c : Dev nD) : Pipeline.BodyObligationLoose (pdats W 0 c) defs₀ 𝒱₀ none Set.univ := (body_obligation W c).loose
theorem enters (c : Dev nD) (w : Fin (Pipeline.pin (pcfgs (F := F)) adm 0).W) :
    (pdats W 0 c).arrAt w 0 = W c (Proc.devRef .tc (Pipeline.arrRef (Pipeline.pin (pcfgs (F := F)) adm 0).spec w)) := at_entry W c w

/-- The region over the thread's buffers, nothing owed before, in or after it; `R` rides along. -/
def reg (R : Dev nD → sProp 𝕄) :
    Pipeline.RegionSeg (pcfgs (F := F)) adm (pdats W) none defs₀ 𝒱₀ (K (F := F)).L (K (F := F)).lev 0 :=
  Pipeline.RegionSeg.ofHeldIn pcfgs adm (pdats W) none defs₀ 𝒱₀ (K (F := F)).L (K (F := F)).lev 0 (fun _ => 0) ucRefs
    (fun _ => BI.emp) (fun _ => BI.emp) (launch1.toP) no_prefetch (body_loose W) (owes_nothing W) (records_all W) (shares_whole W)
    (enter W) (leave W) (fun _ => 0) cut R W (enters W)

/-- Entered from the thread's buffers and what it owes; -/
theorem reg_pre (R : Dev nD → sProp 𝕄) (c : Dev nD) :
    iprop(StableHlo.held (c.tc : Thread nD τ) ucRefs (W c) ∗ ((∃ Wd, owes (c.tc : Thread nD τ) 0 Wd) ∗ (BI.emp : sProp 𝕄) ∗ R c)) ⊢ (reg W R).pre c :=
  Pipeline.RegionSeg.ofHeldIn_pre (pcs := pcfgs) (a := adm) (pdats := pdats W) (ι := none) (defs₀ := defs₀) (𝒱₀ := 𝒱₀)
    (L := (K (F := F)).L) (lv := (K (F := F)).lev) (p := 0) (D := fun _ => 0) (S := ucRefs) (X := fun _ => BI.emp) (Y := fun _ => BI.emp)
    (kit := launch1.toP) (hK := no_prefetch) (hbody := body_loose W) (howed := owes_nothing W) (hrec := records_all W) (hshare := shares_whole W)
    (hin := enter W) (hout := leave W) (b := fun _ => 0) (hcut := cut) (R := R) (W := W) (hW := enters W) (arrs_sub (F := F)) c

/-- left with the same, the buffers as the region leaves them. -/
theorem reg_post (R : Dev nD → sProp 𝕄) (c : Dev nD) :
    (reg W R).post c ⊢ iprop(StableHlo.held (c.tc : Thread nD τ) ucRefs (Wout W c) ∗ ((∃ Wd, owes (c.tc : Thread nD τ) 0 Wd) ∗ (BI.emp : sProp 𝕄) ∗ R c)) :=
  Pipeline.RegionSeg.ofHeldIn_post (pcs := pcfgs) (a := adm) (pdats := pdats W) (ι := none) (defs₀ := defs₀) (𝒱₀ := 𝒱₀)
    (L := (K (F := F)).L) (lv := (K (F := F)).lev) (p := 0) (D := fun _ => 0) (S := ucRefs) (X := fun _ => BI.emp) (Y := fun _ => BI.emp)
    (kit := launch1.toP) (hK := no_prefetch) (hbody := body_loose W) (howed := owes_nothing W) (hrec := records_all W) (hshare := shares_whole W)
    (hin := enter W) (hout := leave W) (b := fun _ => 0) (hcut := cut) (R := R) (W := W) (hW := enters W) (arrs_sub (F := F)) c

end Cert.Proof.Skip

end
-- ==== Proof.Main.lean ====
/-
  The program on the TensorCore's thread: the index row is built from the fifteen indices by three array operations,
  the call gathers the sixteen rows, the loss region reads them beside the two row arrays, and a last array operation
  gives the result its shape.  The thread's buffers are followed as one valuation through all of it, so that the run
  ends with every buffer known: the arguments as they were, and the result's word the region's total.
-/
module

public import proofs.«01_k».proof.Proof.Call
public import proofs.«01_k».proof.Proof.Loss

@[expose] public section

noncomputable section

namespace Cert.Proof.Skip

open Cert.KernelIdeal Cert.KernelIdeal.Gen

open Idealize.ShloMosaic
open Idealize.ShloMosaic.SparseCore (S V T)
open Idealize.ShloMosaic.SparseCore.Cfg (HIx Pay)
open Idealize.ShloMosaic.StableHlo (held held_sub_split held_congr wp_hlo_within)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ShareLeaves

variable {F : FTy → Type}

local notation "𝕄" => MT nD τ sig (HIx 1) (Elt F) ℕ UU ℕ

variable [FloatOps F]

variable (m : (ℓ : Loc nD τ sig) → Buf (Elt F) ℓ) (ρ : Dev nD → PrngReg)

/-! ## The launch element: the handshakes' rounds, the pipeline's rounds, nothing in the counters -/

/-- Every handshake cell and every staging cell at its first round. -/
def u₀ : UU := (initOf (K (F := F)).hsCells (K (F := F)).hsToks,
  (initOf (Pipeline.cells (Pipeline.pin (pcfgs (F := F)) adm) (launch1.toP.cellOf_inj adm))
    (Pipeline.launchToks (Pipeline.pin (pcfgs (F := F)) adm) (launch1.toP.cellOf_inj adm)), 1))

/-- What the loss region's staging asks of the launch, on one device. -/
def G (d : Dev nD) : sProp 𝕄 :=
  iprop((bigSep Finset.univ fun p => Pipeline.cellsGhost (Pipeline.pin (pcfgs (F := F)) adm) (EP (F := F)) p d)
    ∗ bigSep Finset.univ fun p => Pipeline.toksInit (Pipeline.pin (pcfgs (F := F)) adm) (EP (F := F)) p d)

/-- The pipeline's part of the launch element comes to its cells and tokens, device by device. -/
theorem own_G (b : UPC) (hb : b = (initOf (Pipeline.cells (Pipeline.pin (pcfgs (F := F)) adm) (launch1.toP.cellOf_inj adm))
    (Pipeline.launchToks (Pipeline.pin (pcfgs (F := F)) adm) (launch1.toP.cellOf_inj adm)), 1)) :
    (BI.own ((embR : Emb UPC 𝕄) b) : sProp 𝕄) ⊢ |={Set.univ}=> bigSep Finset.univ fun d : Dev nD => G (F := F) d := by
  subst hb
  iintro H
  ihave H2 := (own_pair_emb (embR : Emb UPC 𝕄) _ _) $$ H
  icases H2 with ⟨HP, -⟩
  ihave HP' := (show _ ⊢ _ from Pipeline.fund_ghost (Pipeline.pin (pcfgs (F := F)) adm) ((Emb.inl : Emb (UR sig nD τ) UPC).trans (embR : Emb UPC 𝕄)) (launch1.toP.cellOf_inj adm)) $$ HP
  imod HP' with ⟨Hc, Ht⟩
  imodintro
  unfold G
  rw [bigSep_sep']
  isplitl [Hc]; · iexact Hc
  iexact Ht

/-- Nothing, over any index set, is nothing. -/
theorem emps {I : Type} (s : Finset I) : (bigSep s fun _ => iprop(emp)) = (iprop(emp) : sProp 𝕄) := bigSep_emp_const s

theorem hu₀ (fi : (d : Dev nD) → Buf (Elt F) (iLoc d)) : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P m fi).x q thr) := by
  unfold u₀
  iintro Hu
  ihave H := (ownU_pair _ _) $$ Hu
  icases H with ⟨HH, HR⟩
  ihave HG := (own_G (F := F) _ rfl) $$ HR
  imod HG with HG
  imodintro
  isplitl [HH]; · iexact HH
  isplitl [HG]; · iexact HG
  rw [show (bigSep Finset.univ fun thr : Thread nD τ => bigSep Finset.univ fun q : Fin 1 => (P (F := F) m fi).x q thr) = bigSep Finset.univ fun _ => iprop(emp) from
    bigSep_congr fun _ _ => bigSep_univ_of_subsingleton (0 : Fin 1), emps]
  iempintro

/-! ## The thread's buffers through the program -/

abbrev e' : DevRef τ sig := Proc.devRef .tc (main_arg3 : Ref sig .tc)
abbrev i' : DevRef τ sig := Proc.devRef .tc (main_v2 : Ref sig .tc)
abbrev o' : DevRef τ sig := Proc.devRef .tc (main_v3 : Ref sig .tc)

abbrev a' : DevRef τ sig := Proc.devRef .tc (main_arg2 : Ref sig .tc)
abbrev b' : DevRef τ sig := Proc.devRef .tc (main_v0 : Ref sig .tc)
abbrev c' : DevRef τ sig := Proc.devRef .tc (main_v1 : Ref sig .tc)
abbrev l' : DevRef τ sig := Proc.devRef .tc (main_v4 : Ref sig .tc)
abbrev r' : DevRef τ sig := Proc.devRef .tc (main_v5 : Ref sig .tc)

abbrev opSlice : HloOp τ sig (Elt F) := StableHlo.unary main_arg2 main_v0
  ((extractStridedSlice S1 ![0] · slices_S15_S1_0) : (⟨S15, .i32⟩ : BufTy).Contents (Elt F) → (⟨S1, .i32⟩ : BufTy).Contents (Elt F))
abbrev opCat : HloOp τ sig (Elt F) := StableHlo.binary main_arg2 main_v0 main_v1
  ((fun a b => concatenate S16 0 [⟨S15, a⟩, ⟨S1, b⟩] concatenates_S15_S1_S16_d0) : (⟨S15, .i32⟩ : BufTy).Contents (Elt F) → (⟨S1, .i32⟩ : BufTy).Contents (Elt F) → (⟨S16, .i32⟩ : BufTy).Contents (Elt F))
abbrev opRow : HloOp τ sig (Elt F) := StableHlo.reshape main_v1 main_v2 (rfl : (.i32 : EltTy) = .i32) shapeCasts_S16_S1x16
abbrev opOut : HloOp τ sig (Elt F) := StableHlo.reshape main_v4 main_v5 (rfl : (.f32 : EltTy) = .f32) shapeCasts_S1x1_S_

/-- At launch; -/
def V0 (d : Dev nD) : Valuation τ sig (Elt F) := fun b => m (d, b)
def V1 (d : Dev nD) : Valuation τ sig (Elt F) := (opSlice (F := F)).result (V0 m d)
def V2 (d : Dev nD) : Valuation τ sig (Elt F) := (opCat (F := F)).result (V1 m d)
/-- with the index row built; -/
def V3 (d : Dev nD) : Valuation τ sig (Elt F) := (opRow (F := F)).result (V2 m d)
/-- the index row, as its buffer's contents; -/
def fidx (d : Dev nD) : Buf (Elt F) (iLoc d) := V3 m d i'
/-- after the call; -/
def V4 (d : Dev nD) : Valuation τ sig (Elt F) := Function.update (V3 m d) o' (gatB m (fidx m) d)
/-- after the loss region; -/
def V5 (d : Dev nD) : Valuation τ sig (Elt F) := Wout (V4 m) d
/-- at the end. -/
def V6 (d : Dev nD) : Valuation τ sig (Elt F) := (opOut (F := F)).result (V5 m d)

theorem hSlice : (opSlice (F := F)).bufs ⊆ ucRefs := Pipeline.sub_ucRefs _ (show ({a', b'} : Finset (DevRef τ sig)) ⊆ StableHlo.tcRefs τ sig by decide)
theorem hCat : (opCat (F := F)).bufs ⊆ ucRefs := Pipeline.sub_ucRefs _ (show ({a', b', c'} : Finset (DevRef τ sig)) ⊆ StableHlo.tcRefs τ sig by decide)
theorem hRow : (opRow (F := F)).bufs ⊆ ucRefs := Pipeline.sub_ucRefs _ (show ({c', i'} : Finset (DevRef τ sig)) ⊆ StableHlo.tcRefs τ sig by decide)
theorem hOut : (opOut (F := F)).bufs ⊆ ucRefs := Pipeline.sub_ucRefs _ (show ({l', r'} : Finset (DevRef τ sig)) ⊆ StableHlo.tcRefs τ sig by decide)

/-- The call's three arrays. -/
abbrev S3 : Finset (DevRef τ sig) := {e', i', o'}
theorem S3_sub : S3 ⊆ ucRefs := by decide

theorem held_S3 (d : Dev nD) (W : Valuation τ sig (Elt F)) :
    (held (T d) S3 W : sProp 𝕄) = iprop((eLoc d ↦{fullShare} W e') ∗ (iLoc d ↦{fullShare} W i') ∗ oLoc d ↦{fullShare} W o') := by
  unfold held
  rw [SparseCore.bigSep_insert' (by decide), SparseCore.bigSep_insert' (by decide), bigSep_singleton]

/-- The three operations before the call write only their own results. -/
theorem V3_of (d : Dev nD) (b : DevRef τ sig) (h0 : b ≠ b') (h1 : b ≠ c') (h2 : b ≠ i') : V3 m d b = m (d, b) := by
  unfold V3 V2 V1
  rw [(opRow (F := F)).result_of_not_mem _ (show b ∉ ({i'} : Finset (DevRef τ sig)) from fun h => h2 (Finset.mem_singleton.mp h)),
    (opCat (F := F)).result_of_not_mem _ (show b ∉ ({c'} : Finset (DevRef τ sig)) from fun h => h1 (Finset.mem_singleton.mp h)),
    (opSlice (F := F)).result_of_not_mem _ (show b ∉ ({b'} : Finset (DevRef τ sig)) from fun h => h0 (Finset.mem_singleton.mp h))]
  rfl

theorem V3_e (d : Dev nD) : V3 m d e' = m (eLoc d) := V3_of m d e' (by decide) (by decide) (by decide)

/-- The buffers other than the call's three are the same before and after it. -/
theorem rest_eq (d : Dev nD) : (held (T d) (ucRefs \ S3) (V3 m d) : sProp 𝕄) = held (T d) (ucRefs \ S3) (V4 m d) :=
  held_congr _ fun b hb => by
    unfold V4
    rw [Function.update_of_ne]
    rintro rfl
    exact (Finset.mem_sdiff.mp hb).2 (by decide)

/-- Before the call, the call's three arrays beside the rest; -/
theorem open_call (d : Dev nD) : (held (T d) ucRefs (V3 m d) : sProp 𝕄)
    = iprop(((eLoc d ↦{fullShare} m (eLoc d)) ∗ (iLoc d ↦{fullShare} fidx m d) ∗ oLoc d ↦{fullShare} V3 m d o') ∗ held (T d) (ucRefs \ S3) (V4 m d)) := by
  rw [held_sub_split _ S3_sub, held_S3, rest_eq, V3_e]; rfl

/-- after it, the same with the rows gathered. -/
theorem close_call (d : Dev nD) : (held (T d) ucRefs (V4 m d) : sProp 𝕄)
    = iprop(((eLoc d ↦{fullShare} m (eLoc d)) ∗ (iLoc d ↦{fullShare} fidx m d) ∗ oLoc d ↦{fullShare} gatB m (fidx m) d) ∗ held (T d) (ucRefs \ S3) (V4 m d)) := by
  rw [held_sub_split _ S3_sub, held_S3]
  have he : V4 m d e' = m (eLoc d) := (Function.update_of_ne (show e' ≠ o' by decide) _ _).trans (V3_e m d)
  have hi : V4 m d i' = fidx m d := Function.update_of_ne (show i' ≠ o' by decide) _ _
  have ho : V4 m d o' = gatB m (fidx m) d := Function.update_self _ _ _
  rw [he, hi, ho]

/-! ## What the call takes and gives, over both sequencers -/

/-- A whole share is the two sequencers' halves. -/
theorem in_halves (ℓ : Loc nD τ sig) (f : Buf (Elt F) ℓ) : (ℓ ↦{fullShare} f : sProp 𝕄) = iprop((ℓ ↦{hsh 0} f) ∗ ℓ ↦{hsh 1} f) :=
  (pointsTo_leaves Finset.univ f 1 fullShare).trans (bigSep_fin_two _)

/-- The whole result is the two sequencers' rows. -/
theorem out_halves (d : Dev nD) (f : Buf (Elt F) (oLoc d)) :
    (oLoc d ↦{fullShare} f : sProp 𝕄) ⊣⊢ iprop((oLoc d ↦[half 0]{fullShare} f) ∗ oLoc d ↦[half 1]{fullShare} f) := by
  have h := pointsTo_union (Ix := HIx 1) (Name := ℕ) (U := UU) (Lvl := ℕ) (ℓ := oLoc d) (q := fullShare) (f := f) (halves_disjoint (show 0 ≠ 1 by decide))
  rw [halves_cover] at h
  exact h

theorem st_eq (fi : (d : Dev nD) → Buf (Elt F) (iLoc d)) (d : Dev nD) :
    (bigSep Finset.univ fun c : Fin ((K (F := F)).nCore 0) => (P m fi).st 0 d c)
      = iprop((ins m fi d 0 ∗ ∃ g, oLoc d ↦[half 0]{fullShare} g) ∗ (ins m fi d 1 ∗ ∃ g, oLoc d ↦[half 1]{fullShare} g)) :=
  bigSep_fin_two _
theorem dn_eq (fi : (d : Dev nD) → Buf (Elt F) (iLoc d)) (d : Dev nD) :
    (bigSep Finset.univ fun c : Fin ((K (F := F)).nCore 0) => (P m fi).dn 0 d c)
      = iprop((ins m fi d 0 ∗ oLoc d ↦[half 0]{fullShare} gatB m fi d) ∗ (ins m fi d 1 ∗ oLoc d ↦[half 1]{fullShare} gatB m fi d)) :=
  bigSep_fin_two _

theorem give (fi : (d : Dev nD) → Buf (Elt F) (iLoc d)) (d : Dev nD) (f : Buf (Elt F) (oLoc d)) :
    iprop((eLoc d ↦{fullShare} m (eLoc d)) ∗ (iLoc d ↦{fullShare} fi d) ∗ oLoc d ↦{fullShare} f)
      ⊢ (bigSep Finset.univ fun c : Fin ((K (F := F)).nCore 0) => (P m fi).st 0 d c : sProp 𝕄) := by
  rw [st_eq, in_halves (eLoc d), in_halves (iLoc d)]
  iintro ⟨⟨He0, He1⟩, ⟨Hi0, Hi1⟩, Ho⟩
  ihave Ho' := (out_halves d f).1 $$ Ho
  icases Ho' with ⟨Ho0, Ho1⟩
  isplitl [He0 Hi0 Ho0]
  · isplitl [He0 Hi0]
    · isplitl [He0]; · iexact He0
      iexact Hi0
    iexists f; iexact Ho0
  isplitl [He1 Hi1]
  · isplitl [He1]; · iexact He1
    iexact Hi1
  iexists f; iexact Ho1

theorem take (fi : (d : Dev nD) → Buf (Elt F) (iLoc d)) (d : Dev nD) :
    (bigSep Finset.univ fun c : Fin ((K (F := F)).nCore 0) => (P m fi).dn 0 d c : sProp 𝕄)
      ⊢ iprop((eLoc d ↦{fullShare} m (eLoc d)) ∗ (iLoc d ↦{fullShare} fi d) ∗ oLoc d ↦{fullShare} gatB m fi d) := by
  rw [dn_eq, in_halves (eLoc d), in_halves (iLoc d)]
  iintro ⟨⟨⟨He0, Hi0⟩, Ho0⟩, ⟨He1, Hi1⟩, Ho1⟩
  isplitl [He0 He1]
  · isplitl [He0]; · iexact He0
    iexact He1
  isplitl [Hi0 Hi1]
  · isplitl [Hi0]; · iexact Hi0
    iexact Hi1
  iapply (out_halves d (gatB m fi d)).2
  isplitl [Ho0]; · iexact Ho0
  iexact Ho1

/-! ## The loss region -/

/-- After the one call the TensorCore owes nothing more, and no wait of its own is above the call's band. -/
theorem below (d : Dev nD) (W : Waits sig (HIx 1)) : (K (F := F)).WBelow (T d) W 8 := by
  intro p _
  match p.2 with
  | none => exact Nat.zero_le _
  | some q => match q with | 0 => exact (show 8 * 0 + 6 + 1 ≤ 8 by decide)

/-- The bound on the waits it has recorded may be left out of what it owes, and put back. -/
theorem drop_bound (d : Dev nD) (X : sProp 𝕄) : iprop((∃ W, ⌜(K (F := F)).WBelow (T d) W 8⌝ ∗ owes (T d) 0 W) ∗ X) ⊣⊢ iprop((∃ W, owes (T d) 0 W) ∗ X) := by
  constructor
  · iintro ⟨⟨%W, -, HO⟩, Hr⟩
    isplitl [HO]; · iexists W; iexact HO
    iexact Hr
  · iintro ⟨⟨%W, HO⟩, Hr⟩
    isplitl [HO]
    · iexists W
      isplitr; · ipureintro; exact below d W
      iexact HO
    iexact Hr

/-- What the TensorCore owes, out of its state after the call; the rest rides along. -/
theorem tcSt_open (d : Dev nD) : ∃ R : sProp 𝕄, ((K (F := F)).tcSt EH d 1 : sProp 𝕄) ⊣⊢ iprop((∃ W, owes (T d) 0 W) ∗ R) := by
  unfold SparseCore.Cfg.tcSt
  rw [SparseCore.Cfg.Otc_end _ d (le_refl 1)]
  exact ⟨_, drop_bound d _⟩

/-- The loss call below the SparseCore call's labels, and as the program makes it. -/
def lossCall (d : Dev nD) : Prog (TpuEff nD τ sig (Elt F) (ΛP (F := F)) (T d : Thread nD τ).2) PUnit := .op (.customCall (Pipeline.entry 0) ()) .ret
theorem lossCall_lift (d : Dev nD) : SparseCore.liftProg (Q := 1) (lossCall (F := F) d) = Prog.lift (.customCall (SparseCore.inner (Pipeline.entry 0)) ()) := rfl

/-- A region's record runs the loss call, on the program's own labels. -/
theorem region_wp [∀ e, Nonempty (Elt F e)] (W : Val0 (F := F))
    (r : Pipeline.RegionSeg (pcfgs (F := F)) adm (pdats W) none defs₀ 𝒱₀ (K (F := F)).L (K (F := F)).lev 0) (d : Dev nD) (Q : PUnit → sProp 𝕄) :
    iprop((iprop(boundary (T d) ∗ r.post d) -∗ Q ⟨⟩) ∗ boundary (T d) ∗ r.pre d ∗ levAts (K (F := F)).L (K (F := F)).lev
        ∗ Pipeline.cellsGhost (Pipeline.pin (pcfgs (F := F)) adm) (EP (F := F)) 0 d ∗ Pipeline.toksInit (Pipeline.pin (pcfgs (F := F)) adm) (EP (F := F)) 0 d)
      ⊢ wp frame (wpE ((K (F := F)).defs (D (F := F))) 𝒱 (T d) none) Set.univ (Prog.lift (.customCall (SparseCore.inner (Pipeline.entry 0)) ())) Q := by
  have hl := (K (F := F)).wp_liftProg (D (F := F)) 𝒱 (T d) Set.univ none (lossCall d) Q
  rw [lossCall_lift] at hl
  refine BIBase.Entails.trans ?_ hl
  have h := Pipeline.RegionSeg.wp (pcfgs (F := F)) adm (pdats W) none (launch1.toP.cellOf_inj adm) (EP (F := F)) defs₀ 𝒱₀ (K (F := F)).L (K (F := F)).lev r d none
    (fun u h => absurd h (Option.not_mem_none u)) .ret Q
  refine BIBase.Entails.trans ?_ h
  iintro ⟨Hk, H⟩
  isplitl [Hk]
  · iintro H
    rw [wp_ret]; imodintro
    iapply Hk $$ H
  iexact H

/-- The region runs from the thread's buffers as the call left them, and leaves them with the loss in place. -/
theorem region_run [∀ e, Nonempty (Elt F e)] (d : Dev nD) (Q : PUnit → sProp 𝕄) :
    iprop(boundary (T d) ∗ held (T d) ucRefs (V4 m d) ∗ (∃ W, owes (T d) 0 W) ∗ levAts (K (F := F)).L (K (F := F)).lev ∗ G (F := F) d
        ∗ ((boundary (T d) ∗ held (T d) ucRefs (V5 m d) ∗ (∃ W, owes (T d) 0 W)) -∗ Q ⟨⟩))
      ⊢ wp frame (wpE ((K (F := F)).defs (D (F := F))) 𝒱 (T d) none) Set.univ (Prog.lift (.customCall (SparseCore.inner (Pipeline.entry 0)) ())) Q := by
  refine BIBase.Entails.trans ?_ (region_wp (V4 m) (reg (V4 m) fun _ => iprop(emp)) d Q)
  unfold G
  rw [bigSep_univ_of_subsingleton (0 : Fin 1), bigSep_univ_of_subsingleton (0 : Fin 1)]
  iintro ⟨Hb, Hh, HO, Hlv, ⟨Hc, Ht⟩, Hk⟩
  isplitl [Hk]
  · iintro ⟨Hb, Hpost⟩
    ihave Hp := (reg_post (V4 m) (fun _ => iprop(emp)) d) $$ Hpost
    icases Hp with ⟨Hh, HO, -⟩
    iapply Hk
    isplitl [Hb]; · iexact Hb
    isplitl [Hh]; · iexact Hh
    iexact HO
  isplitl [Hb]; · iexact Hb
  isplitl [Hh HO]
  · iapply (reg_pre (V4 m) (fun _ => iprop(emp)) d)
    isplitl [Hh]; · iexact Hh
    isplitl [HO]; · iexact HO
    isplitl; · iempintro
    iempintro
  isplitl [Hlv]; · iexact Hlv
  isplitl [Hc]; · iexact Hc
  iexact Ht

end Cert.Proof.Skip

end
-- ==== Proof.Run.lean ====
/-
  The whole program's run: the TensorCore's thread from its launch state to the end, and from it the run of every
  thread of the program, at any float domain.  It ends with every buffer of the TensorCore's thread at the last
  valuation and every semaphore at zero.
-/
module

public import proofs.«01_k».proof.Proof.Main

@[expose] public section

noncomputable section

namespace Cert.Proof.Skip

open Cert.KernelIdeal Cert.KernelIdeal.Gen

open Idealize.ShloMosaic
open Idealize.ShloMosaic.SparseCore (S V T)
open Idealize.ShloMosaic.SparseCore.Cfg (HIx Pay)
open Idealize.ShloMosaic.StableHlo (held held_sub_split held_congr wp_hlo_within)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ShareLeaves

variable {F : FTy → Type}

local notation "𝕄" => MT nD τ sig (HIx 1) (Elt F) ℕ UU ℕ

variable [FloatOps F]

variable (m : (ℓ : Loc nD τ sig) → Buf (Elt F) ℓ) (ρ : Dev nD → PrngReg)

/-- What the thread ends with: its buffers at the last valuation. -/
abbrev FIN (d : Dev nD) : sProp 𝕄 := held (T d) ucRefs (V6 m d)

/-- The thread's launch buffers as one held set. -/
theorem launch_held (d : Dev nD) : (unscopedBufs d (fun b => m ((SparseCore.T d).loc b)) : sProp 𝕄) = held (T d) ucRefs (V0 m d) :=
  Pipeline.unscopedBufs_held d (V0 m d)

/-- The TensorCore's thread on device `d`: three array operations, the call, the region, the last array operation. -/
theorem hmain [∀ e, Nonempty (Elt F e)] (κ : GSem nD τ sig → ℕ) (d : Dev nD) :
    iprop((K (F := F)).ctx EH (P m (fidx m)) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d ∗ (K (F := F)).tcEnd d) := by
  obtain ⟨R, hR⟩ := tcSt_open (F := F) d
  unfold SparseCore.Cfg.tcRes SparseCore.Cfg.tcEnd
  rw [launch_held]
  simp only [main, wp_bind, wp_pure]
  iintro ⟨#Hctx, Hst, ⟨Hb, Hh, Hts, -⟩, HG⟩
  -- the index row
  iapply (wp_hlo_within 𝒱 (SparseCore.T d) none Set.univ (op := opSlice) (S := ucRefs) hSlice (V := V0 m d)) $$ [Hb Hh]
  · isplitl [Hb]; · iexact Hb
    iexact Hh
  iintro ⟨Hb, Hh⟩
  rw [wp_ret]; imodintro
  iapply (wp_hlo_within 𝒱 (SparseCore.T d) none Set.univ (op := opCat) (S := ucRefs) hCat (V := V1 m d)) $$ [Hb Hh]
  · isplitl [Hb]; · iexact Hb
    iexact Hh
  iintro ⟨Hb, Hh⟩
  rw [wp_ret]; imodintro
  iapply (wp_hlo_within 𝒱 (SparseCore.T d) none Set.univ (op := opRow) (S := ucRefs) hRow (V := V2 m d)) $$ [Hb Hh]
  · isplitl [Hb]; · iexact Hb
    iexact Hh
  iintro ⟨Hb, Hh⟩
  rw [wp_ret]; imodintro
  -- the call
  ihave Hh' := (show (held (T d) ucRefs ((opRow (F := F)).result (V2 m d)) : sProp 𝕄) ⊢ _ from Entails.of_eq (open_call m d)) $$ Hh
  icases Hh' with ⟨Hin, Hrest⟩
  iapply ((K (F := F)).wp_run (D (F := F)) 𝒱 (EH := EH) (P := P m (fidx m)) κ d 0) $$ [Hst Hin Hrest Hb Hts HG]
  isplitr; · iexact Hctx
  isplitl [Hst]; · iexact Hst
  isplitl [Hin]
  · iapply (give m (fidx m) d (V3 m d o')) $$ Hin
  iintro ⟨Hst, Hdn⟩
  ihave Hback := (take m (fidx m) d) $$ Hdn
  ihave Hh := (Entails.of_eq (close_call m d).symm) $$ [Hback Hrest]
  · isplitl [Hback]; · iexact Hback
    iexact Hrest
  -- the region
  ihave Hst' := (show ((K (F := F)).tcSt EH d ((0 : Fin 1).val + 1) : sProp 𝕄) ⊢ _ from hR.1) $$ Hst
  icases Hst' with ⟨HO, HR⟩
  ihave Hlv := ((K (F := F)).ctx_levAts κ) $$ Hctx
  iapply (region_run m d) $$ [Hb Hh HO Hlv HG HR Hts]
  isplitl [Hb]; · iexact Hb
  isplitl [Hh]; · iexact Hh
  isplitl [HO]; · iexact HO
  isplitl [Hlv]; · iexact Hlv
  isplitl [HG]; · iexact HG
  iintro ⟨Hb, Hh, HO⟩
  -- the result's shape
  iapply (wp_hlo_within 𝒱 (SparseCore.T d) none Set.univ (op := opOut) (S := ucRefs) hOut (V := V5 m d)) $$ [Hb Hh]
  · isplitl [Hb]; · iexact Hb
    iexact Hh
  iintro ⟨Hb, Hh⟩
  rw [wp_ret]; imodintro; imodintro
  isplitl [HO HR]
  · iapply (show _ ⊢ ((K (F := F)).tcSt EH d 1 : sProp 𝕄) from hR.2)
    isplitl [HO]; · iexact HO
    iexact HR
  isplitl [Hh]; · iexact Hh
  isplitl [Hb] <;> iassumption

/-- At the end the machine's memory is the last valuation on every buffer of the thread. -/
def fq (d : Dev nD) (s' : Phys nD τ sig (Elt F)) : Prop := ∀ b ∈ ucRefs, s'.mem.mem (d, b) = V6 m d b

theorem hfin (d : Dev nD) (s' : Phys nD τ sig (Elt F)) : iprop(FIN m d ∗ SI s') ⊢ (⌜fq m d s'⌝ : sProp 𝕄) := by
  unfold FIN held fq
  iintro ⟨Hh, HSI⟩
  iapply (SI_pointsTo_bufs_agree (st := s') (c := d) (qs := fun _ => fullShare) (F := V6 m d) ucRefs)
  isplitl [HSI]; · iexact HSI
  iexact Hh

/-- What the run ends with. -/
def QC : PUnit × MemSt nD τ sig (Elt F) → Prop := fun r => (∀ d : Dev nD, ∀ b ∈ ucRefs, r.2.mem (d, b) = V6 m d b) ∧ r.2.sem = fun _ => 0

/-- The program runs, and ends so, whenever every word of the index row names a row of the table. -/
theorem run_main [∀ e, Nonempty (Elt F e)] (hidx : ∀ d, ∀ x : S1x16.Idx, (fidx m d x).toNat < 100000) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m (fidx m)) (A := ∅) facts v₀
    (fun q _ => match q with | 0 => scalarObl m (fidx m) hidx)
    (fun q hq => match q with | 0 => nomatch hq)
    (fun q hq => match q with | 0 => nomatch hq)
    m ρ main (fun d => G (F := F) d) (FIN m) (u₀ (F := F)) (sep_elim_left.trans (hu₀ m (fidx m))) (hmain m ρ) (fq m) (hfin m) (QC m) (fun _ h hz => ⟨h, hz⟩)

end Cert.Proof.Skip

end
-- ==== Proof.Row.lean ====
/-
  The index row, word by word: its first fifteen words are the fifteen indices, and the sixteenth is the first index
  once more.  So the row stays within the table when the fifteen indices do.
-/
module

public import proofs.«01_k».proof.Proof.Main
public import Idealize.ShloMosaic.Lib.Pointwise

@[expose] public section

noncomputable section

namespace Cert.Proof.Skip

open Cert.KernelIdeal Cert.KernelIdeal.Gen

open Idealize.ShloMosaic
open Idealize.ShloMosaic.SparseCore (S V T)
open Idealize.ShloMosaic.ShareLeaves

variable {F : FTy → Type} [FloatOps F]

variable (m : (ℓ : Loc nD τ sig) → Buf (Elt F) ℓ)

/-- The fifteen indices at launch. -/
abbrev idx15 (d : Dev nD) : S15.Idx → BitVec 32 := m (d, a')

/-- Which of the fifteen indices the row's column `k` holds. -/
def colOf (k : Fin 16) : Fin 15 := if h : k.val < 15 then ⟨k.val, h⟩ else 0

theorem V1_b (d : Dev nD) : V1 m d b' = extractStridedSlice S1 ![0] (idx15 m d) slices_S15_S1_0 := by
  unfold V1
  exact StableHlo.unary_result main_arg2 main_v0 _ _ _ (V0 m d)

theorem V1_a (d : Dev nD) : V1 m d a' = idx15 m d := by
  unfold V1
  exact (opSlice (F := F)).result_of_not_mem _ (show a' ∉ ({b'} : Finset (DevRef τ sig)) by decide)

theorem V2_c (d : Dev nD) : V2 m d c' = concatenate S16 0 [⟨S15, idx15 m d⟩, ⟨S1, extractStridedSlice S1 ![0] (idx15 m d) slices_S15_S1_0⟩] concatenates_S15_S1_S16_d0 := by
  unfold V2
  rw [← V1_b, ← V1_a]
  exact StableHlo.binary_result main_arg2 main_v0 main_v1 _ _ _ _ (V1 m d)

/-- The row before it is laid out as a row: sixteen words. -/
theorem V2_word (d : Dev nD) (k : Fin 16) : (V2 m d c' : S16.Idx → BitVec 32) (ix1 k) = idx15 m d (ix1 (colOf k)) := by
  rw [V2_c]
  unfold colOf
  split
  next h =>
    rw [concatenate_pair_apply_left (s₁ := S15) (s₂ := S1) (t := S16) 0 _ _ concatenates_S15_S1_S16_d0 (ix1 k) rfl (ix1 ⟨k.val, h⟩) (fun b => by fin_cases b; rfl)]
  next h =>
    have hk : k.val = 15 := by omega
    rw [concatenate_pair_apply_right (s₁ := S15) (s₂ := S1) (t := S16) 0 _ _ concatenates_S15_S1_S16_d0 (ix1 k) rfl rfl (ix1 0)
      (fun b hb => absurd (Subsingleton.elim _ _) hb) (by show 0 + 15 = k.val; omega)]
    exact congrArg (idx15 m d) (funext fun b => by fin_cases b; rfl)

theorem fidx_eq (d : Dev nD) : fidx m d = fun x : S1x16.Idx => idx15 m d (ix1 (colOf (x 1))) := by
  unfold fidx V3
  refine (StableHlo.reshape_result main_v1 main_v2 _ _ _ _ (V2 m d)).trans ?_
  funext x
  refine Eq.trans ?_ (V2_word m d ((x : S1x16.Idx) 1))
  refine congrArg (V2 m d c' : S16.Idx → BitVec 32) (Shape.reshapeEquiv_eq_of_rowMajor (s := S16) (s' := S1x16) shapeCasts_S16_S1x16 ?_)
  have h0 := ((x : S1x16.Idx) 0).isLt
  rw [Shape.rowMajor_val_one, Shape.rowMajor_val_two]
  show ((x : S1x16.Idx) 1).val = ((x : S1x16.Idx) 0).val * 16 + ((x : S1x16.Idx) 1).val
  have h0' : ((x : S1x16.Idx) 0).val = 0 := Nat.lt_one_iff.mp h0
  omega

/-- The row is within the table when the fifteen indices are. -/
theorem fidx_lt (d : Dev nD) (h : ∀ k, (idx15 m d k).toNat < 100000) (x : S1x16.Idx) : (fidx m d x).toNat < 100000 := by
  rw [fidx_eq]; exact h _

end Cert.Proof.Skip

end
-- ==== Proof.Ends.lean ====
/-
  What the program leaves: its four arguments as they were, and its one result at the loss region's total.
-/
module

public import proofs.«01_k».proof.Proof.Run
public import proofs.«01_k».proof.Proof.Row

@[expose] public section

noncomputable section

namespace Cert.Proof.Skip

open Cert.KernelIdeal Cert.KernelIdeal.Gen

open Idealize.ShloMosaic
open Idealize.ShloMosaic.SparseCore (S V T)
open Idealize.ShloMosaic.ShareLeaves

variable {F : FTy → Type} [FloatOps F]

variable (m : (ℓ : Loc nD τ sig) → Buf (Elt F) ℓ)

/-- A buffer that the program does not write is what it was at launch. -/
theorem V6_of (d : Dev nD) (r : Ref sig .tc) (h0 : (Proc.devRef .tc r : DevRef τ sig) ≠ b') (h1 : (Proc.devRef .tc r : DevRef τ sig) ≠ c')
    (h2 : (Proc.devRef .tc r : DevRef τ sig) ≠ i') (h3 : (Proc.devRef .tc r : DevRef τ sig) ≠ o') (h4 : r ≠ main_v4)
    (h5 : (Proc.devRef .tc r : DevRef τ sig) ≠ r') :
    V6 m d (Proc.devRef .tc r) = m (d, Proc.devRef .tc r) := by
  refine ((opOut (F := F)).result_of_not_mem _ (show (Proc.devRef .tc r : DevRef τ sig) ∉ ({r'} : Finset (DevRef τ sig)) from
    fun h => h5 (Finset.mem_singleton.mp h))).trans ?_
  refine (Wout_keeps (V4 m) d r h4).trans ?_
  exact (Function.update_of_ne h3 _ _).trans (V3_of m d _ h0 h1 h2)

/-- The result is the loss region's total. -/
theorem V6_result (d : Dev nD) : V6 m d r' = fun _ : S_.Idx => tot (V4 m) d 8 := by
  unfold V6
  refine (StableHlo.reshape_result main_v4 main_v5 _ _ _ _ (V5 m d)).trans ?_
  funext x
  exact congrFun (Wout_result (V4 m) d) _

/-- The arguments of a final memory are the launch's. -/
def Kept (r : MemSt nD τ sig (Elt F)) : Prop := ∀ c : Dev nD,
  r.mem ((c.tc : Thread nD τ).loc main_arg0) = m ((c.tc : Thread nD τ).loc main_arg0)
  ∧ r.mem ((c.tc : Thread nD τ).loc main_arg1) = m ((c.tc : Thread nD τ).loc main_arg1)
  ∧ r.mem ((c.tc : Thread nD τ).loc main_arg2) = m ((c.tc : Thread nD τ).loc main_arg2)
  ∧ r.mem ((c.tc : Thread nD τ).loc main_arg3) = m ((c.tc : Thread nD τ).loc main_arg3)

theorem kept_of (r : PUnit × MemSt nD τ sig (Elt F)) (h : QC m r) : Kept m r.2 := fun c =>
  ⟨(h.1 c (Proc.devRef .tc main_arg0) (by decide)).trans (V6_of m c _ (by decide) (by decide) (by decide) (by decide) (by decide) (by decide)),
   (h.1 c (Proc.devRef .tc main_arg1) (by decide)).trans (V6_of m c _ (by decide) (by decide) (by decide) (by decide) (by decide) (by decide)),
   (h.1 c (Proc.devRef .tc main_arg2) (by decide)).trans (V6_of m c _ (by decide) (by decide) (by decide) (by decide) (by decide) (by decide)),
   (h.1 c (Proc.devRef .tc main_arg3) (by decide)).trans (V6_of m c _ (by decide) (by decide) (by decide) (by decide) (by decide) (by decide))⟩

theorem result_of (r : PUnit × MemSt nD τ sig (Elt F)) (h : QC m r) (c : Dev nD) :
    r.2.mem ((c.tc : Thread nD τ).loc main_v5) = fun _ : S_.Idx => tot (V4 m) c 8 :=
  (h.1 c r' (by decide)).trans (V6_result m c)

end Cert.Proof.Skip

end
-- ==== Proof.Range.lean ====
/-
  What the kernel's precondition says: every one of the fifteen indices names a row of the table.
-/
module

public import proofs.«01_k».proof.Proof.Gen.Pre_in_range
public import Idealize.ShloMosaic.Lib.ReduceAll
public import Idealize.ShloMosaic.Lib.WordArith
public import Idealize.ShloMosaic.Lib.Pointwise

@[expose] public section

noncomputable section

namespace Cert.Proof.Skip

open Idealize.ShloMosaic

/-- A rank-zero array has one index. -/
instance scalarIdx : Subsingleton (⟨0, ![]⟩ : Shape).Idx := ⟨fun _ _ => funext fun i => i.elim0⟩

/-- A word found nonnegative and below the table's length names a row of it. -/
theorem row_word_lt (x : BitVec 32) (h0 : IntOp.cmpi .sge x 0#32 = 1#1) (h1 : IntOp.cmpi .slt x 100000#32 = 1#1) : x.toNat < 100000 := by
  refine WordArith.toNat_lt_of_zero_sle_of_slt_ofNat x 100000 (by norm_num) ?_ ?_
  · by_contra hc
    rw [Bool.not_eq_true] at hc
    rw [show IntOp.cmpi .sge x 0#32 = BitVec.ofBool (BitVec.sle 0#32 x) from rfl, hc] at h0
    exact absurd h0 (by decide)
  · by_contra hc
    rw [Bool.not_eq_true] at hc
    rw [show IntOp.cmpi .slt x 100000#32 = BitVec.ofBool (BitVec.slt x (BitVec.ofNat 32 100000)) from rfl, hc] at h1
    exact absurd h1 (by decide)

theorem in_range_lt {F : FTy → Type} [FloatOps F] (a0 a1 : FVec F Cert.Pre_in_range.S16384x64 .f32) (a2 : IVec Cert.Pre_in_range.S15 32)
    (a3 : FVec F Cert.Pre_in_range.S100000x64 .f32) (h : Cert.Pre_in_range.fn (F := F) a0 a1 a2 a3 = fun _ => 1#1) (k : Cert.Pre_in_range.S15.Idx) :
    (a2 k).toNat < 100000 := by
  have h := congrFun h (Shape.Idx.first Cert.Pre_in_range.Facts.h_S_)
  dsimp only [Cert.Pre_in_range.fn] at h
  obtain ⟨h0, h1⟩ := IntOp.andi_eq_one.mp h
  exact row_word_lt _ (Host.reduce_andi_all _ _ _ _ _ h0 k) (Host.reduce_andi_all _ _ _ _ _ h1 k)

end Cert.Proof.Skip

end
-- ==== Proof.Same.lean ====
/-
  The kernel was printed twice, and the two printings are one program: nothing was rewritten between them.  So a run of
  one, read at the machine's words, is a run of the other.
-/
module

public import proofs.«01_k».proof.Defs
public import proofs.«01_k».proof.Proof.Gen.Kernel
public import proofs.«01_k».proof.Proof.Gen.KernelIdeal

@[expose] public section

noncomputable section

namespace Cert.Proof.Skip

open Idealize.ShloMosaic

set_option maxHeartbeats 1000000 in
/-- The kernels' bodies, label by label and processor by processor. -/
theorem bodies_same : Cert.Kernel.defs₀ (F := Bits) = Cert.KernelIdeal.defs₀ := by
  funext p l a
  match p, l, a with
  | .scScalar c, 0, _ => rfl
  | .tc, 1, (t, s) => rfl
  | .tc, 0, _ => rfl
  | .scScalar c, 1, _ => rfl
  | .scVector .., 0, _ => rfl
  | .scVector .., 1, _ => rfl

/-- The body tables built over them. -/
theorem defs_same : Cert.Kernel.defs (F := Bits) = Cert.KernelIdeal.defs :=
  congrArg (fun b => (Cert.KernelIdeal.sc (F := Bits)).defs (Pipeline.defs Cert.KernelIdeal.pcfgs b)) bodies_same

set_option maxHeartbeats 1000000 in
theorem threads_same : Cert.Kernel.threads (F := Bits) = Cert.KernelIdeal.threads := rfl

end Cert.Proof.Skip

end
-- ==== Proof.Frames.lean ====
/-
  The frames: each program runs, leaves its arguments as they were, and leaves every counter at zero.  The kernel's two
  readings, at the machine's words and at the extended reals, are one run read twice.
-/
module

public import proofs.«01_k».proof.Defs
public import proofs.«01_k».proof.Proof.Ends
public import proofs.«01_k».proof.Proof.Range
public import proofs.«01_k».proof.Proof.Same
public import proofs.«01_k».proof.Proof.Gen.ReferenceIdeal.Run
public import Idealize.ShloMosaic.Lib.Quiescent

@[expose] public section

noncomputable section

namespace Cert.Proof.Skip

open Idealize.ShloMosaic Idealize.SL.Sem

/-- The kernel's run at the machine's words, from the precondition. -/
theorem run_words (m : (ℓ : Loc Cert.KernelIdeal.nD Cert.KernelIdeal.τ Cert.KernelIdeal.sig) → Buf (Elt Bits) ℓ)
    (ρ : Dev Cert.KernelIdeal.nD → PrngReg) (h : ∀ d k, (idx15 m d k).toNat < 100000) :
    θ_run (Cert.KernelIdeal.defs (F := Bits)) (Cert.KernelIdeal.threads (F := Bits)) ⟨m, fun _ => 0, ρ⟩ (fun r => Kept m r.2 ∧ r.2.sem = fun _ => 0) :=
  (θ_run Cert.KernelIdeal.defs _ _).mono (fun r h => ⟨kept_of (F := Bits) m r h, h.2⟩)
    (run_main (F := Bits) m ρ fun d => fidx_lt m d (h d))

theorem frame_kernel : Cert.quiescent_Kernel := fun m ρ hp => by
  rw [defs_same, threads_same]
  exact run_words m ρ fun d => in_range_lt _ _ _ _ (hp d)

theorem frame_kernelIdeal : Cert.quiescent_KernelIdeal := fun m ρ hp =>
  (θ_run Cert.KernelIdeal.defs _ _).mono (fun r h => ⟨kept_of (F := Ideal) m r h, h.2⟩)
    (run_main (F := Ideal) m ρ fun d => fidx_lt m d (in_range_lt _ _ _ _ (hp d)))

theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Proof.Skip

end
-- ==== Proof.Finite.lean ====
/-
  What the value claim's precondition says at the extended reals: every one of the fifteen indices names a row of the
  table, and the center rows and the table hold finite numbers.
-/
module

public import proofs.«01_k».proof.Proof.Range
public import proofs.«01_k».proof.Proof.Gen.Pre_in_range_and_finite
public import Idealize.ShloMosaic.PureOps.Ideal

@[expose] public section

noncomputable section

namespace Cert.Proof.Skip

open Idealize.ShloMosaic

/-- Below the top in absolute value, an extended real is finite. -/
theorem finite_of_olt (x : Ideal .f32) (h : FloatOps.cmpf (F := Ideal) .olt (FloatOps.absf (F := Ideal) x) (FloatOps.ofBits .f32 0x7F800000#32) = 1#1) :
    ∃ r : ℝ, x = (r : EReal) := by
  have ht : FloatOps.ofBits (F := Ideal) .f32 0x7F800000#32 = (⊤ : EReal) := by
    show Ideal.ofBits .f32 0x7F800000#32 = ⊤
    simp [Ideal.ofBits, Ideal.ieee]
  rw [ht] at h
  have hlt : max (x : EReal) (-x) < ⊤ := by
    by_contra hc
    exact absurd (h.symm.trans (show BitVec.ofBool (decide (max (x : EReal) (-x) < ⊤)) = 0#1 by rw [decide_eq_false hc]; rfl)) (by decide)
  have hp : (x : EReal) ≠ ⊤ := fun e => absurd (lt_of_le_of_lt (le_max_left _ _) hlt) (by rw [e]; exact lt_irrefl _)
  have hn : (x : EReal) ≠ ⊥ := fun e => absurd (lt_of_le_of_lt (le_max_right _ _) hlt) (by rw [e, EReal.neg_bot]; exact lt_irrefl _)
  exact ⟨(x : EReal).toReal, (EReal.coe_toReal hp hn).symm⟩

section
open Cert.Pre_in_range_and_finite
variable (a0 a1 : FVec Ideal S16384x64 .f32) (a2 : IVec S15 32) (a3 : FVec Ideal S100000x64 .f32) (h : fn (F := Ideal) a0 a1 a2 a3 = fun _ => 1#1)
include h

theorem fin_parts : (∀ k : S15.Idx, (a2 k).toNat < 100000) ∧ (∀ x, ∃ r : ℝ, a0 x = (r : EReal)) ∧ (∀ x, ∃ r : ℝ, a3 x = (r : EReal)) := by
  have h := congrFun h (Shape.Idx.first Facts.h_S_)
  dsimp only [fn, fn_part1] at h
  obtain ⟨h, h3⟩ := IntOp.andi_eq_one.mp h
  obtain ⟨h, h0⟩ := IntOp.andi_eq_one.mp h
  obtain ⟨h, h1⟩ := IntOp.andi_eq_one.mp h
  exact ⟨fun k => row_word_lt _ (Host.reduce_andi_all _ _ _ _ _ h k) (Host.reduce_andi_all _ _ _ _ _ h1 k),
    fun x => finite_of_olt _ (Host.reduce_andi_all _ _ _ _ _ h0 x), fun x => finite_of_olt _ (Host.reduce_andi_all _ _ _ _ _ h3 x)⟩
end

end Cert.Proof.Skip

end
-- ==== Proof.FramesFinite.lean ====
/-
  The runs and frames under the value claim's precondition, which holds that of the frames.
-/
module

public import proofs.«01_k».proof.Proof.Frames
public import proofs.«01_k».proof.Proof.Finite

@[expose] public section

noncomputable section

namespace Cert.Proof.Skip

open Idealize.ShloMosaic Idealize.SL.Sem

/-- The kernel's run at the extended reals, from the stronger precondition. -/
theorem run_finite (m : (ℓ : Loc Cert.KernelIdeal.nD Cert.KernelIdeal.τ Cert.KernelIdeal.sig) → Buf (Elt Ideal) ℓ)
    (ρ : Dev Cert.KernelIdeal.nD → PrngReg) (hp : Cert.Pre_KernelIdeal_in_range_and_finite m) :
    θ_run (Cert.KernelIdeal.defs (F := Ideal)) (Cert.KernelIdeal.threads (F := Ideal)) ⟨m, fun _ => 0, ρ⟩ (QC m) :=
  run_main (F := Ideal) m ρ fun d => fidx_lt m d (fin_parts _ _ _ _ (hp d)).1

theorem frame_kernelIdeal_finite : Cert.quiescent_KernelIdeal_pre_in_range_and_finite := fun m ρ hp =>
  (θ_run Cert.KernelIdeal.defs _ _).mono (fun r h => ⟨kept_of (F := Ideal) m r h, h.2⟩) (run_finite m ρ hp)

theorem frame_referenceIdeal_finite : Cert.quiescent_ReferenceIdeal_pre_in_range_and_finite := fun m ρ _ =>
  frame_referenceIdeal m ρ trivial

end Cert.Proof.Skip

end
-- ==== Proof.LogSig.lean ====
/-
  The logarithm of the sigmoid over the extended reals, as the kernel writes it, and its two facts: it is the negated
  softplus of the negated argument, and it is never positive.  With them, sums of such numbers may be negated term by
  term: over the extended reals that needs the terms to stay off the top.
-/
module

public import Idealize.ShloMosaic.PureOps.Ideal

@[expose] public section

noncomputable section

namespace Cert.Proof.Skip

open Idealize.ShloMosaic

/-- What the logarithm of the sigmoid subtracts: the logarithm of one and the exponential of the negated magnitude. -/
def tail (x : EReal) : EReal := Ideal.log1p (Ideal.exp (-(max x (-x))))

/-- The logarithm of the sigmoid. -/
def ls (x : EReal) : EReal := min x 0 - tail x

/-- A nonnegative real's exponential negated, one added, has a nonnegative logarithm. -/
theorem log1p_exp_real (r : ℝ) : Ideal.log1p (Ideal.exp (r : EReal)) = ((Real.log (1 + Real.exp r) : ℝ) : EReal) := by
  have hp : 0 < 1 + Real.exp r := by positivity
  show Ideal.log (1 + ((Real.exp r : ℝ) : EReal)) = _
  rw [← EReal.coe_one, ← EReal.coe_add]
  show (if 1 + Real.exp r ≤ 0 then (⊥ : EReal) else _) = _
  rw [if_neg (not_le.mpr hp)]

theorem log1p_exp_bot : Ideal.log1p (Ideal.exp ⊥) = ((0 : ℝ) : EReal) := by
  show Ideal.log (1 + 0) = _
  rw [add_zero, ← EReal.coe_one]
  show (if (1 : ℝ) ≤ 0 then (⊥ : EReal) else _) = _
  rw [if_neg (by norm_num), Real.log_one]

/-- The subtracted part is a nonnegative real, whatever the argument. -/
theorem tail_real (x : EReal) : ∃ r : ℝ, 0 ≤ r ∧ tail x = (r : EReal) := by
  unfold tail
  induction x using EReal.rec with
  | bot => exact ⟨0, le_rfl, by rw [EReal.neg_bot, max_eq_right bot_le, EReal.neg_top, log1p_exp_bot]⟩
  | top => exact ⟨0, le_rfl, by rw [EReal.neg_top, max_eq_left bot_le, EReal.neg_top, log1p_exp_bot]⟩
  | coe r =>
    refine ⟨Real.log (1 + Real.exp (-(max r (-r)))), Real.log_nonneg (by have := Real.exp_pos (-(max r (-r))); linarith), ?_⟩
    rw [← EReal.coe_neg, ← EReal.coe_strictMono.monotone.map_max, ← EReal.coe_neg, log1p_exp_real]

theorem tail_neg (x : EReal) : tail (-x) = tail x := by
  unfold tail
  rw [neg_neg, max_comm]

/-- The logarithm of the sigmoid is the negated softplus of the negated argument. -/
theorem neg_softplus (x : EReal) : -(max (-x) 0 + tail (-x)) = ls x := by
  obtain ⟨r, -, hr⟩ := tail_real x
  rw [tail_neg, hr, EReal.neg_add (Or.inr (EReal.coe_ne_top r)) (Or.inr (EReal.coe_ne_bot r))]
  unfold ls
  rw [hr]
  congr 1
  rcases le_total x 0 with h | h
  · rw [max_eq_left (by rw [← neg_zero]; exact EReal.neg_le_neg_iff.mpr h), neg_neg, min_eq_left h]
  · rw [max_eq_right (by rw [← neg_zero (G := EReal)]; exact EReal.neg_le_neg_iff.mpr h), neg_zero, min_eq_right h]

theorem ls_ne_top (x : EReal) : ls x ≠ ⊤ := by
  obtain ⟨r, -, hr⟩ := tail_real x
  unfold ls
  rw [hr]
  intro h
  have hm : min x 0 ≠ ⊤ := fun e => absurd (min_le_right x 0) (by rw [e]; exact not_le.mpr EReal.zero_lt_top)
  rw [sub_eq_add_neg, ← EReal.coe_neg] at h
  exact (EReal.add_ne_top hm (EReal.coe_ne_top _)) h

/-! ## Sums below the top -/

theorem sum_ne_top {I : Type} (s : Finset I) (f : I → EReal) (h : ∀ i ∈ s, f i ≠ ⊤) : ∑ i ∈ s, f i ≠ ⊤ := by
  classical
  induction s using Finset.induction_on with
  | empty => rw [Finset.sum_empty]; exact EReal.zero_ne_top
  | insert a s ha ih =>
    rw [Finset.sum_insert ha]
    exact EReal.add_ne_top (h a (Finset.mem_insert_self _ _)) (ih fun i hi => h i (Finset.mem_insert_of_mem hi))

/-- A sum of numbers below the top is negated term by term. -/
theorem sum_neg {I : Type} (s : Finset I) (f : I → EReal) (h : ∀ i ∈ s, f i ≠ ⊤) : ∑ i ∈ s, -(f i) = -(∑ i ∈ s, f i) := by
  classical
  induction s using Finset.induction_on with
  | empty => rw [Finset.sum_empty, Finset.sum_empty, neg_zero]
  | insert a s ha ih =>
    have hs : ∀ i ∈ s, f i ≠ ⊤ := fun i hi => h i (Finset.mem_insert_of_mem hi)
    rw [Finset.sum_insert ha, Finset.sum_insert ha, ih hs,
      EReal.neg_add (Or.inr (sum_ne_top s f hs)) (Or.inl (h a (Finset.mem_insert_self _ _))), sub_eq_add_neg]

/-! ## Products of finite numbers -/

/-- A sum of reals is a real. -/
theorem sum_coe {I : Type} (s : Finset I) (f : I → ℝ) : ∑ i ∈ s, (f i : EReal) = ((∑ i ∈ s, f i : ℝ) : EReal) := by
  classical
  induction s using Finset.induction_on with
  | empty => rw [Finset.sum_empty, Finset.sum_empty, EReal.coe_zero]
  | insert a s ha ih => rw [Finset.sum_insert ha, Finset.sum_insert ha, ih, EReal.coe_add]

/-- Over finite numbers a product with one side negated, the sides in the other order, is the product negated. -/
theorem dot_neg {I : Type} [Fintype I] (c s : I → EReal) (hc : ∀ i, ∃ r : ℝ, c i = (r : EReal)) (hs : ∀ i, ∃ r : ℝ, s i = (r : EReal)) :
    ∑ i, s i * -(c i) = -(∑ i, c i * s i) := by
  choose c' hc using hc
  choose s' hs using hs
  have h1 : ∀ i, s i * -(c i) = ((s' i * -(c' i) : ℝ) : EReal) := fun i => by rw [hc, hs, ← EReal.coe_neg, ← EReal.coe_mul]
  have h2 : ∀ i, c i * s i = ((c' i * s' i : ℝ) : EReal) := fun i => by rw [hc, hs, ← EReal.coe_mul]
  rw [Finset.sum_congr rfl fun i _ => h1 i, Finset.sum_congr rfl fun i _ => h2 i, sum_coe, sum_coe, ← EReal.coe_neg]
  congr 1
  rw [← Finset.sum_neg_distrib]
  exact Finset.sum_congr rfl fun i _ => by ring

end Cert.Proof.Skip

end
-- ==== Proof.Block.lean ====
/-
  What one grid point of the loss region adds up, over the extended reals: the logarithms of the sigmoids of its rows'
  products, and those of the negated products with the first fifteen gathered rows.
-/
module

public import proofs.«01_k».proof.Proof.LogSig
public import proofs.«01_k».proof.Proof.Gen.KernelIdeal.Skeleton
public import Idealize.ShloMosaic.Lib.Pointwise

@[expose] public section

noncomputable section

namespace Cert.Proof.Skip

open Cert.KernelIdeal Cert.KernelIdeal.Gen
open Idealize.ShloMosaic

/-- Whether a column counts: fewer than fifteen before it. -/
theorem column_counts (n : Fin 16) (a b : EReal) :
    Scalar.select (IntOp.cmpi .slt (BitVec.ofNat 32 n.val) 15#32) a b = if n.val < 15 then a else b := by
  revert a b
  revert n
  have h : ∀ n : Fin 16, IntOp.cmpi .slt (BitVec.ofNat 32 n.val) 15#32 = if n.val < 15 then 1#1 else 0#1 := by decide
  intro n a b
  rw [h]
  split <;> rfl

/-- The kernel's spelling of the logarithm of the sigmoid. -/
theorem ls_kernel (x : EReal) :
    min x 0 - Ideal.log1p (Ideal.exp (0 - FloatOps.absf (F := Ideal) (φ := .f32) x)) = ls x := by
  rw [Ideal.absf_def, zero_sub]; rfl

theorem pay3_eq (v0 v1 : FVec Ideal S2048x64 .f32) (v2 : FVec Ideal S16x64 .f32) :
    k1_pay3 (F := Ideal) v0 v1 v2 =
      (∑ r : Fin 2048, ls (∑ k : Fin 64, v0 (ix2 r k) * v1 (ix2 r k)))
        + ∑ r : Fin 2048, ∑ n : Fin 16, (if n.val < 15 then ls (-(∑ k : Fin 64, v0 (ix2 r k) * v2 (ix2 n k))) else 0 : EReal) := by
  refine Eq.trans (b := (∑ r : Fin 2048, (min (∑ k : Fin 64, v0 (ix2 r k) * v1 (ix2 r k)) 0
        - Ideal.log1p (Ideal.exp (0 - FloatOps.absf (F := Ideal) (φ := .f32) (∑ k : Fin 64, v0 (ix2 r k) * v1 (ix2 r k)))) : EReal))
      + ∑ r : Fin 2048, ∑ n : Fin 16, (Scalar.select (IntOp.cmpi .slt (BitVec.ofNat 32 n.val) 15#32)
          (min (0 - ∑ k : Fin 64, v0 (ix2 r k) * v2 (ix2 n k)) 0
            - Ideal.log1p (Ideal.exp (0 - FloatOps.absf (F := Ideal) (φ := .f32) (0 - ∑ k : Fin 64, v0 (ix2 r k) * v2 (ix2 n k))))) 0 : EReal)) ?_ ?_
  · unfold k1_pay3
    pointwise
  · refine congr (congrArg _ (Finset.sum_congr rfl fun r _ => ls_kernel _)) (Finset.sum_congr rfl fun r _ => Finset.sum_congr rfl fun n _ => ?_)
    rw [column_counts, ls_kernel, zero_sub]

end Cert.Proof.Skip

end
-- ==== Proof.Total.lean ====
/-
  The loss region's total over the extended reals: the eight grid points' sums, negated together, times the reciprocal
  of the number of rows.
-/
module

public import proofs.«01_k».proof.Proof.Block
public import proofs.«01_k».proof.Proof.Loss

@[expose] public section

noncomputable section

namespace Cert.Proof.Skip

open Cert.KernelIdeal Cert.KernelIdeal.Gen
open Idealize.ShloMosaic

/-- One grid point's addition to the accumulator. -/
theorem pay1_eq (p v : Ideal .f32) : k1_pay1 (F := Ideal) p v = (v + -p : EReal) := by
  show (v + (Ideal.ofBits .f32 0x00000000#32 - p) : EReal) = _
  rw [Ideal.ofBits_zero_f32, zero_sub]

/-- The factor of the last grid point is one over the number of rows. -/
theorem pay2_eq (v : Ideal .f32) : k1_pay2 (F := Ideal) v = (v * ((16384 : ℝ)⁻¹ : ℝ) : EReal) := by
  show (v * Ideal.ofBits .f32 0x38800000#32 : EReal) = _
  congr 1
  simp [Ideal.ofBits, Ideal.ieee, -EReal.coe_mul]
  norm_num

variable (W : Val0 (F := Ideal)) (c : Dev nD)

/-- The grid points' sums, counted from zero. -/
def nth (n : ℕ) : EReal := if h : n < cfg1.N then partAt W c ⟨n, h⟩ else 0

theorem nth_of (n : ℕ) (h : n < cfg1.N) : nth W c n = partAt W c ⟨n, h⟩ := dif_pos h

/-- Before the last grid point, the accumulator holds the sums so far, each negated. -/
theorem tot_before (n : ℕ) (hn : n ≤ 7) : (tot W c n : EReal) = ∑ i ∈ Finset.range n, -(nth W c i) := by
  induction n with
  | zero =>
    rw [Finset.range_zero, Finset.sum_empty]
    exact Ideal.ofBits_zero_f32
  | succ n ih =>
    have h : n < cfg1.N := show n < 8 by omega
    rw [Finset.sum_range_succ, ← ih (by omega), nth_of W c n h]
    exact (tot_mid W c ⟨n, h⟩ (by show n ≠ 7; omega)).trans (pay1_eq _ _)

/-- At the end: all eight, and the factor. -/
theorem tot_end (q : Fin 8 → EReal) (hq : ∀ t : Fin 8, nth W c t.val = q t) (hp : ∀ t, q t ≠ ⊤) :
    (tot W c 8 : EReal) = -(∑ t : Fin 8, q t) * ((16384 : ℝ)⁻¹ : ℝ) := by
  have h : (7 : ℕ) < cfg1.N := show 7 < 8 by omega
  refine ((tot_last W c ⟨7, h⟩ rfl).trans (pay2_eq _)).trans ?_
  congr 1
  refine (pay1_eq _ _).trans ?_
  rw [tot_before W c 7 le_rfl, ← nth_of W c 7 h, ← Finset.sum_range_succ, Finset.sum_range, ← sum_neg _ _ fun t _ => hp t]
  exact Finset.sum_congr rfl fun t _ => by rw [hq]

end Cert.Proof.Skip

end
-- ==== Proof.Blocks.lean ====
/-
  The blocks that the loss region reads, element by element, and so what the program returns over the extended reals:
  minus the eight blocks' sums, over 16384.
-/
module

public import proofs.«01_k».proof.Proof.Ends
public import proofs.«01_k».proof.Proof.Total
public import Idealize.ShloMosaic.Lib.Pipeline.ValueKit

@[expose] public section

noncomputable section

namespace Cert.Proof.Skip

open Cert.KernelIdeal Cert.KernelIdeal.Gen
open Idealize.ShloMosaic

variable (m : (ℓ : Loc nD τ sig) → Buf (Elt Ideal) ℓ)

/-- The four arguments at launch, as arrays of numbers and words. -/
abbrev centers (c : Dev nD) : S16384x64.Idx → EReal := m ((c.tc : Thread nD τ).loc main_arg0)
abbrev contexts (c : Dev nD) : S16384x64.Idx → EReal := m ((c.tc : Thread nD τ).loc main_arg1)
abbrev table (c : Dev nD) : S100000x64.Idx → EReal := m ((c.tc : Thread nD τ).loc main_arg3)

/-- Where the windows' blocks stand: the batch's at point `t`'s rows, the sample at the start. -/
theorem places : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0 :=
  (by decide +kernel : ∀ t : Fin grid1.N, _)

/-- Row `r` of block `t` among the batch's rows. -/
abbrev batchRow (t : Fin 8) (r : Fin 2048) : Fin 16384 := ⟨t.val * 2048 + r.val, by omega⟩

theorem stg0_at (c : Dev nD) (t : Fin 8) (r : Fin 2048) (k : Fin 64) :
    (stg0 (V4 m) c t : S2048x64.Idx → EReal) (ix2 r k) = centers m c (ix2 (batchRow t r) k) := by
  obtain ⟨h0, h1, _⟩ := places t
  have hV : V4 m c (Proc.devRef .tc main_arg0) = m ((c.tc : Thread nD τ).loc main_arg0) :=
    (Function.update_of_ne (by decide) _ _).trans (V3_of m c _ (by decide) (by decide) (by decide))
  refine (congrFun hV _).trans (congrArg (centers m c) ?_)
  funext a; apply Fin.ext
  match a with
  | ⟨0, _⟩ => show win1_0.index t (0 : Fin 2) * 2048 + 1 * r.val = t.val * 2048 + r.val; rw [h0]; omega
  | ⟨1, _⟩ => show win1_0.index t (1 : Fin 2) * 64 + 1 * k.val = k.val; rw [h1]; omega

theorem stg1_at (c : Dev nD) (t : Fin 8) (r : Fin 2048) (k : Fin 64) :
    (stg1 (V4 m) c t : S2048x64.Idx → EReal) (ix2 r k) = contexts m c (ix2 (batchRow t r) k) := by
  obtain ⟨_, _, h0, h1, _⟩ := places t
  have hV : V4 m c (Proc.devRef .tc main_arg1) = m ((c.tc : Thread nD τ).loc main_arg1) :=
    (Function.update_of_ne (by decide) _ _).trans (V3_of m c _ (by decide) (by decide) (by decide))
  refine (congrFun hV _).trans (congrArg (contexts m c) ?_)
  funext a; apply Fin.ext
  match a with
  | ⟨0, _⟩ => show win1_1.index t (0 : Fin 2) * 2048 + 1 * r.val = t.val * 2048 + r.val; rw [h0]; omega
  | ⟨1, _⟩ => show win1_1.index t (1 : Fin 2) * 64 + 1 * k.val = k.val; rw [h1]; omega

/-- The table row that a word names. -/
abbrev rowAt (w : BitVec 32) : Fin 100000 := ⟨min w.toNat 99999, by omega⟩

theorem stg2_at (c : Dev nD) (t : Fin 8) (n : Fin 16) (k : Fin 64) :
    (stg2 (V4 m) c t : S16x64.Idx → EReal) (ix2 n k) = table m c (ix2 (rowAt (idx15 m c (ix1 (colOf n)))) k) := by
  obtain ⟨_, _, _, _, h0, h1⟩ := places t
  have hV : V4 m c (Proc.devRef .tc main_v3) = gatB m (fidx m) c := Function.update_self _ _ _
  have hx : ((cfg1.win 2).blk t).view.emb (ix2 n k) = (ix2 n k : S16x64.Idx) := by
    funext a; apply Fin.ext
    match a with
    | ⟨0, _⟩ => show win1_2.index t (0 : Fin 2) * 16 + 1 * n.val = n.val; rw [h0]; omega
    | ⟨1, _⟩ => show win1_2.index t (1 : Fin 2) * 64 + 1 * k.val = k.val; rw [h1]; omega
  refine (congrFun hV _).trans ?_
  rw [show ((cfg1.win 2).blk t).view.emb (ix2 n k) = (ix2 n k : S16x64.Idx) from hx]
  unfold gatB
  rw [fidx_eq]
  rfl

/-- What one block of rows adds up. -/
def blockSum (c : Dev nD) (t : Fin 8) : EReal :=
  (∑ r : Fin 2048, ls (∑ k : Fin 64, centers m c (ix2 (batchRow t r) k) * contexts m c (ix2 (batchRow t r) k)))
    + ∑ r : Fin 2048, ∑ n : Fin 16, (if n.val < 15 then
        ls (-(∑ k : Fin 64, centers m c (ix2 (batchRow t r) k) * table m c (ix2 (rowAt (idx15 m c (ix1 (colOf n)))) k))) else 0 : EReal)

theorem blockSum_ne_top (c : Dev nD) (t : Fin 8) : blockSum m c t ≠ ⊤ := by
  refine EReal.add_ne_top (sum_ne_top _ _ fun r _ => ls_ne_top _) (sum_ne_top _ _ fun r _ => sum_ne_top _ _ fun n _ => ?_)
  split
  · exact ls_ne_top _
  · exact EReal.zero_ne_top

theorem nth_block (c : Dev nD) (t : Fin 8) : nth (V4 m) c t.val = blockSum m c t := by
  refine (nth_of (V4 m) c t.val t.isLt).trans ?_
  refine (pay3_eq _ _ _).trans ?_
  unfold blockSum
  refine congr (congrArg _ (Finset.sum_congr rfl fun r _ => congrArg ls (Finset.sum_congr rfl fun k _ => ?_)))
    (Finset.sum_congr rfl fun r _ => Finset.sum_congr rfl fun n _ => ?_)
  · exact congr (congrArg _ (stg0_at m c t r k)) (stg1_at m c t r k)
  · split
    · refine congrArg ls (congrArg _ (Finset.sum_congr rfl fun k _ => ?_))
      exact congr (congrArg _ (stg0_at m c t r k)) (stg2_at m c t n k)
    · rfl

/-- What the program returns. -/
theorem tot_blocks (c : Dev nD) :
    (tot (V4 m) c 8 : EReal) = -(∑ t : Fin 8, blockSum m c t) * ((16384 : ℝ)⁻¹ : ℝ) :=
  tot_end (V4 m) c (blockSum m c) (nth_block m c) (blockSum_ne_top m c)

end Cert.Proof.Skip

end
-- ==== Proof.RefTerm.lean ====
/-
  The reference's result as a composition of its parts: the softplus that its two logarithms of the sigmoid are made
  of, the rows that it takes out of the table, the two arrays of products, and their mean.
-/
module

public import proofs.«01_k».proof.Proof.Gen.ReferenceIdeal.Run

@[expose] public section

noncomputable section

namespace Cert.Proof.Skip.Ref

open Cert.ReferenceIdeal Cert.ReferenceIdeal.Facts₀
open Idealize.ShloMosaic

variable {F : FTy → Type} [FloatOps F]

/-- The softplus, at the batch's shape. -/
def soft1 (y : FVec F S16384 .f32) : FVec F S16384 .f32 :=
  select (cmpf .une (subf y (broadcastInDim S16384 ![] bcast_S_S16384 (constant S_ .f32 0x00000000#32))) (subf y (broadcastInDim S16384 ![] bcast_S_S16384 (constant S_ .f32 0x00000000#32))))
    (addf y (broadcastInDim S16384 ![] bcast_S_S16384 (constant S_ .f32 0x00000000#32)))
    (addf (maximumf y (broadcastInDim S16384 ![] bcast_S_S16384 (constant S_ .f32 0x00000000#32)))
      (Host.log1p (Host.exp (Host.negf (Host.absf (subf y (broadcastInDim S16384 ![] bcast_S_S16384 (constant S_ .f32 0x00000000#32))))))))

/-- The softplus, at the shape of samples by batch. -/
def soft2 (y : FVec F S15x16384 .f32) : FVec F S15x16384 .f32 :=
  select (cmpf .une (subf y (broadcastInDim S15x16384 ![] bcast_S_S15x16384 (constant S_ .f32 0x00000000#32))) (subf y (broadcastInDim S15x16384 ![] bcast_S_S15x16384 (constant S_ .f32 0x00000000#32))))
    (addf y (broadcastInDim S15x16384 ![] bcast_S_S15x16384 (constant S_ .f32 0x00000000#32)))
    (addf (maximumf y (broadcastInDim S15x16384 ![] bcast_S_S15x16384 (constant S_ .f32 0x00000000#32)))
      (Host.log1p (Host.exp (Host.negf (Host.absf (subf y (broadcastInDim S15x16384 ![] bcast_S_S15x16384 (constant S_ .f32 0x00000000#32))))))))

/-- The start indices: a negative index counts from the table's end. -/
def startIx (a2 : IVec S15 32) : IVec S15x1 32 :=
  broadcastInDim S15x1 ![0] bcast_S15_S15x1_0 (select (cmpi .slt a2 (broadcastInDim S15 ![] bcast_S_S15 (constantI S_ 32 0#32)))
    (addi a2 (broadcastInDim S15 ![] bcast_S_S15 (constantI S_ 32 100000#32))) a2)

/-- Which start indices name a row of the table. -/
def within (a2 : IVec S15 32) : IVec S15x1 1 :=
  andi (cmpi .sge (startIx a2) (broadcastInDim S15x1 ![] bcast_S_S15x1 (constantI S_ 32 0#32)))
    (cmpi .sle (startIx a2) (broadcastInDim S15x1 ![0, 1] bcast_S1x1_S15x1_0_1 (broadcastInDim S1x1 ![1] bcast_S1_S1x1_1 (constantI S1 32 99999#32))))

/-- The rows taken out of the table; not-a-number where the start index names none. -/
def taken (a2 : IVec S15 32) (a3 : FVec F S100000x64 .f32) : FVec F S15x64 .f32 :=
  select (broadcastInDim S15x64 ![0] bcast_S15_S15x64_0 (Host.reduce IntOp.andi (within a2) (constantI S_ 1 1#1) reducesTo_S15x1_S15_d1 h_S_))
    (Host.gather gather_S100000x64_S15x1_S15x64_1_0_n_n_0_1_164 a3 (startIx a2))
    (broadcastInDim S15x64 ![] bcast_S_S15x64 (constant S_ .f32 0x7FC00000#32))

/-- The products of each center with its context. -/
def pos (a0 a1 : FVec F S16384x64 .f32) : FVec F S16384 .f32 :=
  Host.reduceAdd (mulf a0 a1) (constant S_ .f32 0x00000000#32) reducesTo_S16384x64_S16384_d1 h_S_

/-- The products of each negated center with each sample. -/
def neg (a0 : FVec F S16384x64 .f32) (s : FVec F S15x64 .f32) : FVec F S15x16384 .f32 :=
  Host.dotGeneral dot_S15x64_S16384x64_S15x16384_1_1_0_0_n_n none s (Host.negf a0)

/-- Minus the mean of the two logarithms' sum. -/
def mean (p : FVec F S16384 .f32) (n : FVec F S15x16384 .f32) : FVec F S_ .f32 :=
  Host.negf (Host.divf (Host.reduceAdd (addf (Host.negf (soft1 (Host.negf p)))
      (Host.reduceAdd (Host.negf (soft2 (Host.negf n))) (constant S_ .f32 0x00000000#32) reducesTo_S15x16384_S16384_d0 h_S_))
    (constant S_ .f32 0x00000000#32) reducesTo_S16384_S_d0 h_S_) (constant S_ .f32 0x46800000#32))

variable (m : (ℓ : Loc nD τ sig) → Buf (Elt F) ℓ) (c : Dev nD)

theorem result_eq : Cert.ReferenceIdeal.Value.res_main_v11 m c
    = mean (pos (m ((c.tc : Thread nD τ).loc main_arg0)) (m ((c.tc : Thread nD τ).loc main_arg1)))
        (neg (m ((c.tc : Thread nD τ).loc main_arg0)) (taken (m ((c.tc : Thread nD τ).loc main_arg2)) (m ((c.tc : Thread nD τ).loc main_arg3)))) := by
  unfold Cert.ReferenceIdeal.Value.res_main_v11
  rfl

end Cert.Proof.Skip.Ref

end
-- ==== Proof.RefValue.lean ====
/-
  The reference's parts over the extended reals, element by element.
-/
module

public import proofs.«01_k».proof.Proof.RefTerm
public import proofs.«01_k».proof.Proof.LogSig
public import Idealize.ShloMosaic.Lib.Pointwise
public import Idealize.ShloMosaic.Lib.ReduceAll
public import Idealize.ShloMosaic.Lib.Routing.Ops

@[expose] public section

noncomputable section

namespace Cert.Proof.Skip.Ref

open Cert.ReferenceIdeal Cert.ReferenceIdeal.Facts₀
open Idealize.ShloMosaic

/-- The reference's spelling of the softplus, whose test for not-a-number never holds. -/
theorem soft_spelt (y : EReal) :
    Scalar.select (FloatOps.cmpf (F := Ideal) (φ := .f32) .une (y - 0) (y - 0)) (y + 0) (max y 0 + Ideal.log1p (Ideal.exp (-(FloatOps.absf (F := Ideal) (φ := .f32) (y - 0) : EReal))))
      = max y 0 + tail y := by
  rw [Ideal.cmpf_def, Ideal.absf_def, sub_zero]
  simp [Ideal.cmp, Scalar.select, tail]

theorem soft1_at (y : FVec Ideal S16384 .f32) (b : Fin 16384) : (soft1 y (ix1 b) : EReal) = max (y (ix1 b)) 0 + tail (y (ix1 b)) := by
  refine Eq.trans (b := Scalar.select (FloatOps.cmpf (F := Ideal) (φ := .f32) .une ((y (ix1 b) : EReal) - 0) ((y (ix1 b) : EReal) - 0)) ((y (ix1 b) : EReal) + 0)
    (max (y (ix1 b) : EReal) 0 + Ideal.log1p (Ideal.exp (-(FloatOps.absf (F := Ideal) (φ := .f32) ((y (ix1 b) : EReal) - 0) : EReal))))) ?_ (soft_spelt _)
  unfold soft1
  pointwise

theorem soft2_at (y : FVec Ideal S15x16384 .f32) (n : Fin 15) (b : Fin 16384) :
    (soft2 y (ix2 n b) : EReal) = max (y (ix2 n b)) 0 + tail (y (ix2 n b)) := by
  refine Eq.trans (b := Scalar.select (FloatOps.cmpf (F := Ideal) (φ := .f32) .une ((y (ix2 n b) : EReal) - 0) ((y (ix2 n b) : EReal) - 0)) ((y (ix2 n b) : EReal) + 0)
    (max (y (ix2 n b) : EReal) 0 + Ideal.log1p (Ideal.exp (-(FloatOps.absf (F := Ideal) (φ := .f32) ((y (ix2 n b) : EReal) - 0) : EReal))))) ?_ (soft_spelt _)
  unfold soft2
  pointwise

theorem pos_at (a0 a1 : FVec Ideal S16384x64 .f32) (b : Fin 16384) :
    (pos a0 a1 (ix1 b) : EReal) = ∑ k : Fin 64, (a0 (ix2 b k) : EReal) * a1 (ix2 b k) := by
  unfold pos
  pointwise

theorem neg_at (a0 : FVec Ideal S16384x64 .f32) (s : FVec Ideal S15x64 .f32) (n : Fin 15) (b : Fin 16384) :
    (neg a0 s (ix2 n b) : EReal) = ∑ k : Fin 64, (s (ix2 n k) : EReal) * -(a0 (ix2 b k)) := by
  unfold neg
  pointwise

/-- Minus the mean, in the logarithms of the sigmoid. -/
theorem mean_at (p : FVec Ideal S16384 .f32) (n : FVec Ideal S15x16384 .f32) (x : S_.Idx) :
    (mean p n x : EReal) = -((∑ b : Fin 16384, (ls (p (ix1 b)) + ∑ i : Fin 15, ls (n (ix2 i b)))) * ((16384 : ℝ)⁻¹ : ℝ)) := by
  have h16 : Ideal.ofBits .f32 0x46800000#32 = ((16384 : ℝ) : EReal) := by
    simp [Ideal.ofBits, Ideal.ieee, -EReal.coe_mul]; norm_num
  refine Eq.trans (b := -(Ideal.div (∑ b : Fin 16384, (-(soft1 (Host.negf p) (ix1 b) : EReal) + ∑ i : Fin 15, -(soft2 (Host.negf n) (ix2 i b) : EReal)))
    (Ideal.ofBits .f32 0x46800000#32))) ?_ ?_
  · unfold mean
    pointwise
  · rw [h16]
    show -(if ((16384 : ℝ) : EReal) = 0 then _ else _ * ((16384 : ℝ) : EReal)⁻¹) = _
    rw [if_neg (by norm_num), ← EReal.coe_inv]
    refine congrArg (fun z : EReal => -(z * ((16384 : ℝ)⁻¹ : ℝ))) (Finset.sum_congr rfl fun b _ => ?_)
    rw [soft1_at]
    refine congr (congrArg _ (neg_softplus _)) (Finset.sum_congr rfl fun i _ => ?_)
    rw [soft2_at]
    exact neg_softplus _

/-- A word that names a row, read signed, is the row's number. -/
theorem row_word_toInt (w : BitVec 32) (h : w.toNat < 100000) : w.toInt = (w.toNat : ℤ) :=
  BitVec.toInt_eq_toNat_of_lt (by omega)

theorem row_word_not_neg (w : BitVec 32) (h : w.toNat < 100000) : IntOp.cmpi .slt w 0#32 = 0#1 := by
  show BitVec.ofBool (decide (w.toInt < (0#32).toInt)) = _
  rw [row_word_toInt w h, decide_eq_false (by show ¬ (w.toNat : ℤ) < 0; omega)]
  rfl

theorem row_word_ge (w : BitVec 32) (h : w.toNat < 100000) : IntOp.cmpi .sge w 0#32 = 1#1 := by
  show BitVec.ofBool (decide ((0#32).toInt ≤ w.toInt)) = _
  rw [row_word_toInt w h, decide_eq_true (by show (0 : ℤ) ≤ (w.toNat : ℤ); omega)]
  rfl

theorem row_word_le (w : BitVec 32) (h : w.toNat < 100000) : IntOp.cmpi .sle w 99999#32 = 1#1 := by
  show BitVec.ofBool (decide (w.toInt ≤ (99999#32).toInt)) = _
  rw [row_word_toInt w h, decide_eq_true (by show (w.toNat : ℤ) ≤ 99999; omega)]
  rfl

/-- A start index is the index itself when that names a row. -/
theorem startIx_at (a2 : IVec S15 32) (h : ∀ k, (a2 k).toNat < 100000) (n : Fin 15) : startIx a2 (ix2 n (0 : Fin 1)) = a2 (ix1 n) := by
  refine Eq.trans (b := Scalar.select (IntOp.cmpi .slt (a2 (ix1 n)) 0#32) (IntOp.addi (a2 (ix1 n)) 100000#32) (a2 (ix1 n))) ?_ ?_
  · unfold startIx
    pointwise
  · rw [row_word_not_neg _ (h _)]; rfl

theorem within_at (a2 : IVec S15 32) (h : ∀ k, (a2 k).toNat < 100000) (x : S15x1.Idx) : within a2 x = 1#1 := by
  refine Eq.trans (b := IntOp.andi (IntOp.cmpi .sge (startIx a2 x) 0#32) (IntOp.cmpi .sle (startIx a2 x) 99999#32)) ?_ ?_
  · unfold within
    pointwise
  · obtain ⟨n, hx⟩ : ∃ n : Fin 15, x = (ix2 n (0 : Fin 1) : S15x1.Idx) := by
      refine ⟨x 0, ?_⟩
      funext a
      match a with
      | ⟨0, _⟩ => rfl
      | ⟨1, _⟩ => exact Subsingleton.elim (α := Fin 1) _ _
    rw [hx, startIx_at a2 h, row_word_ge _ (h _), row_word_le _ (h _)]
    rfl

/-- The rows taken are the table's, at the indices. -/
theorem taken_at (a2 : IVec S15 32) (a3 : FVec Ideal S100000x64 .f32) (h : ∀ k, (a2 k).toNat < 100000) (n : Fin 15) (k : Fin 64) :
    taken a2 a3 (ix2 n k) = a3 (ix2 ⟨(a2 (ix1 n)).toNat, h _⟩ k) := by
  refine Eq.trans (b := Scalar.select (Host.reduce IntOp.andi (within a2) (constantI S_ 1 1#1) reducesTo_S15x1_S15_d1 h_S_ (ix1 n))
    (Host.gather gather_S100000x64_S15x1_S15x64_1_0_n_n_0_1_164 a3 (startIx a2) (ix2 n k)) (Ideal.ofBits .f32 0x7FC00000#32)) ?_ ?_
  · unfold taken
    pointwise
  · rw [Host.reduce_andi_one _ _ _ _ _ rfl (within_at a2 h)]
    refine Eq.trans (b := Host.gather gather_S100000x64_S15x1_S15x64_1_0_n_n_0_1_164 a3 (startIx a2) (ix2 n k)) rfl ?_
    refine Routing.gather_row _ rfl rfl rfl rfl rfl a3 (startIx a2) n k ⟨(a2 (ix1 n)).toNat, h _⟩ ?_ (by norm_num)
    refine (startIx_at a2 h n).trans ?_
    rw [BitVec.ofNat_toNat, BitVec.setWidth_eq]

end Cert.Proof.Skip.Ref

end
-- ==== Proof.Value.lean ====
/-
  The two results are one number: the blocks' sums are the batch's sum, their sixteenth column adds nothing, and a
  product with a negated center is the negated product, the centers and the table being finite.
-/
module

public import proofs.«01_k».proof.Proof.Blocks
public import proofs.«01_k».proof.Proof.RefValue
public import Idealize.ShloMosaic.Lib.Pointwise.Sums

@[expose] public section

noncomputable section

namespace Cert.Proof.Skip

open Idealize.ShloMosaic

/-- A sum over sixteen columns of which the first fifteen count. -/
theorem sum_columns (f : Fin 15 → EReal) :
    (∑ n : Fin 16, (if n.val < 15 then f (colOf n) else 0 : EReal)) = ∑ n : Fin 15, f n := by
  rw [Fin.sum_univ_castSucc, if_neg (by decide : ¬ (Fin.last 15).val < 15), add_zero]
  refine Finset.sum_congr rfl fun n _ => ?_
  rw [if_pos (show (Fin.castSucc n).val < 15 from n.isLt)]
  refine congrArg f ?_
  unfold colOf
  rw [dif_pos (show (Fin.castSucc n).val < 15 from n.isLt)]
  rfl

/-- The batch's sum, block by block. -/
theorem sum_blocks (f : Fin 16384 → EReal) : (∑ b : Fin 16384, f b) = ∑ t : Fin 8, ∑ r : Fin 2048, f (batchRow t r) :=
  Fin.sum_univ_tiles 8 2048 (by norm_num) f

section
variable (a0 a1 : FVec Ideal Cert.ReferenceIdeal.S16384x64 .f32) (a2 : IVec Cert.ReferenceIdeal.S15 32) (a3 : FVec Ideal Cert.ReferenceIdeal.S100000x64 .f32)
  (h : ∀ k, (a2 k).toNat < 100000) (h0 : ∀ x, ∃ r : ℝ, a0 x = (r : EReal)) (h3 : ∀ x, ∃ r : ℝ, a3 x = (r : EReal))
include h h0 h3

/-- The reference's product of a negated center and a sample is the negated product. -/
theorem neg_product (n : Fin 15) (b : Fin 16384) :
    (Ref.neg a0 (Ref.taken a2 a3) (ix2 n b) : EReal) = -(∑ k : Fin 64, (a0 (ix2 b k) : EReal) * a3 (ix2 ⟨(a2 (ix1 n)).toNat, h _⟩ k)) := by
  refine (Ref.neg_at a0 _ n b).trans ?_
  refine Eq.trans ?_ (dot_neg (fun k : Fin 64 => (a0 (ix2 b k) : EReal)) (fun k => (a3 (ix2 ⟨(a2 (ix1 n)).toNat, h _⟩ k) : EReal))
    (fun k => h0 _) (fun k => h3 _))
  exact Finset.sum_congr rfl fun k _ => by rw [Ref.taken_at a2 a3 h]
end

variable (m : (ℓ : Loc Cert.KernelIdeal.nD Cert.KernelIdeal.τ Cert.KernelIdeal.sig) → Buf (Elt Ideal) ℓ) (c : Dev Cert.KernelIdeal.nD)

/-- What the program returns is the reference's term of the same arguments. -/
theorem value_eq (h : ∀ k, (idx15 m c k).toNat < 100000) (h0 : ∀ x, ∃ r : ℝ, centers m c x = (r : EReal))
    (h3 : ∀ x, ∃ r : ℝ, table m c x = (r : EReal)) (x : Cert.ReferenceIdeal.S_.Idx) :
    (tot (V4 m) c 8 : EReal)
      = Ref.mean (Ref.pos (centers m c) (contexts m c)) (Ref.neg (centers m c) (Ref.taken (idx15 m c) (table m c))) x := by
  rw [tot_blocks, Ref.mean_at, EReal.neg_mul, sum_blocks]
  refine congrArg (fun z : EReal => -(z * ((16384 : ℝ)⁻¹ : ℝ))) (Finset.sum_congr rfl fun t _ => ?_)
  unfold blockSum
  rw [← Finset.sum_add_distrib]
  refine Finset.sum_congr rfl fun r _ => ?_
  refine congr (congrArg _ (congrArg ls ((Ref.pos_at _ _ _).symm))) ?_
  refine (sum_columns fun n => ls (-(∑ k : Fin 64, centers m c (ix2 (batchRow t r) k) * table m c (ix2 (rowAt (idx15 m c (ix1 n))) k)))).trans ?_
  refine Finset.sum_congr rfl fun n _ => congrArg ls ?_
  refine Eq.trans ?_ (neg_product (centers m c) (idx15 m c) (table m c) h h0 h3 n (batchRow t r)).symm
  have hr : rowAt (idx15 m c (ix1 n)) = ⟨(idx15 m c (ix1 n)).toNat, h _⟩ := Fin.ext (min_eq_left (by have := h (ix1 n); omega))
  rw [hr]

end Cert.Proof.Skip

end
-- ==== Proof.Algebraic.lean ====
/-
  The value claim: both programs run, and return the same number.
-/
module

public import proofs.«01_k».proof.Proof.FramesFinite
public import proofs.«01_k».proof.Proof.Value

@[expose] public section

noncomputable section

namespace Cert.Proof.Skip

open Idealize.ShloMosaic

theorem algebraic : Cert.algebraic_KernelIdeal_ReferenceIdeal_pre_in_range_and_finite := fun m g m' g' hp hm => by
  refine ⟨fun c => fun _ : Cert.KernelIdeal.S_.Idx => tot (V4 m) c 8, ?_, ?_⟩
  · exact (θ_run Cert.KernelIdeal.defs _ _).mono (fun r h c => ⟨result_of (F := Ideal) m r h c, kept_of (F := Ideal) m r h c⟩) (run_finite m g hp)
  · refine (θ_run Cert.ReferenceIdeal.defs _ _).mono (fun r h c => ⟨(h c).1.trans ?_, (h c).2⟩) (Cert.ReferenceIdeal.Value.run (F := Ideal) m' g')
    obtain ⟨e0, e1, e2, e3⟩ := hm c
    obtain ⟨hi, h0, h3⟩ := fin_parts _ _ _ _ (hp c)
    rw [Ref.result_eq, e0, e1, e2, e3]
    exact funext fun x => (value_eq m c hi h0 h3 x).symm

end Cert.Proof.Skip

end
-- ==== Proof.lean ====
/-
  The certificate.
-/
module

public import proofs.«01_k».proof.Defs
public import proofs.«01_k».proof.Proof.Algebraic
public import proofs.«01_k».proof.Proof.Gen.Pre_in_range_and_finite
public import proofs.«01_k».proof.Proof.Gen.ReferenceIdeal.Run

@[expose] public section

noncomputable section

namespace Cert.Proof

open Cert.Proof.Skip

theorem claim : Cert.Claim :=
  ⟨Cert.Kernel.Gen.facts, Cert.KernelIdeal.Gen.facts, Cert.ReferenceIdeal.Gen.facts, Cert.Pre_in_range.Gen.facts, Cert.Pre_in_range_and_finite.Gen.facts,
    frame_kernel, frame_kernelIdeal, frame_kernelIdeal_finite, frame_referenceIdeal, frame_referenceIdeal_finite, trivial, algebraic⟩

end Cert.Proof

end
